-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S2x512x512 : Shape := ⟨3, ![2, 512, 512]⟩
abbrev S2x512x2048 : Shape := ⟨3, ![2, 512, 2048]⟩
abbrev S8x512x2048 : Shape := ⟨3, ![8, 512, 2048]⟩
abbrev S2x512x1024 : Shape := ⟨3, ![2, 512, 1024]⟩
abbrev S8 : Shape := ⟨1, ![8]⟩
abbrev S2 : Shape := ⟨1, ![2]⟩
abbrev S_ : Shape := ⟨0, ![]⟩
abbrev S1x512x2048 : Shape := ⟨3, ![1, 512, 2048]⟩
abbrev S1x512x512 : Shape := ⟨3, ![1, 512, 512]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e4m3⟩
  | .local _ .vmem, ⟨1, _⟩ => ⟨S8x512x512, .fp8e4m3⟩
  | .local _ .vmem, ⟨2, _⟩ => ⟨S2x512x512, .f32⟩
  | .local _ .vmem, ⟨3, _⟩ => ⟨S2x512x2048, .f32⟩
  | .local _ .vmem, ⟨4, _⟩ => ⟨S8x512x2048, .fp8e4m3⟩
  | .local _ .vmem, ⟨5, _⟩ => ⟨S2x512x1024, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 9 24 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 8

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7 : BitVec 32 := 1#32
  let v16 : BitVec 32 := Scalar.muli v13 c1_i32_7
  let v17 : BitVec 32 := Scalar.addi c0_i32_8 v16
  v17.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v18 : BitVec 32 := Scalar.addi v2 c2_i32
  let c8_i32_9 : BitVec 32 := 8#32
  let c0_i32_10 : BitVec 32 := 0#32
  let v19 : BitVec 1 := Scalar.cmpi .eq c8_i32_9 c0_i32_10
  let c1_i32_11 : BitVec 32 := 1#32
  let v20 : BitVec 32 := Scalar.select v19 c1_i32_11 c8_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v31 : BitVec 32 := Scalar.muli v28 c1_i32_16
  let v32 : BitVec 32 := Scalar.addi c0_i32_17 v31
  v32.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v33 : BitVec 32 := Scalar.addi v2 c3_i32
  let c8_i32_18 : BitVec 32 := 8#32
  let c0_i32_19 : BitVec 32 := 0#32
  let v34 : BitVec 1 := Scalar.cmpi .eq c8_i32_18 c0_i32_19
  let c1_i32_20 : BitVec 32 := 1#32
  let v35 : BitVec 32 := Scalar.select v34 c1_i32_20 c8_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_25 : BitVec 32 := 1#32
  let v46 : BitVec 32 := Scalar.muli v43 c1_i32_25
  let v47 : BitVec 32 := Scalar.addi c0_i32_26 v46
  v47.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v48 : BitVec 32 := Scalar.addi v2 c4_i32
  let c8_i32_27 : BitVec 32 := 8#32
  let c0_i32_28 : BitVec 32 := 0#32
  let v49 : BitVec 1 := Scalar.cmpi .eq c8_i32_27 c0_i32_28
  let c1_i32_29 : BitVec 32 := 1#32
  let v50 : BitVec 32 := Scalar.select v49 c1_i32_29 c8_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c1_i32_34 : BitVec 32 := 1#32
  let v61 : BitVec 32 := Scalar.muli v58 c1_i32_34
  let v62 : BitVec 32 := Scalar.addi c0_i32_35 v61
  v62.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v63 : BitVec 32 := Scalar.addi v2 c5_i32
  let c8_i32_36 : BitVec 32 := 8#32
  let c0_i32_37 : BitVec 32 := 0#32
  let v64 : BitVec 1 := Scalar.cmpi .eq c8_i32_36 c0_i32_37
  let c1_i32_38 : BitVec 32 := 1#32
  let v65 : BitVec 32 := Scalar.select v64 c1_i32_38 c8_i32_36
  let v66 : BitVec 32 := Scalar.remsi v63 v65
  let c0_i32_40 : BitVec 32 := 0#32
  let v68 : BitVec 1 := Scalar.cmpi .slt v66 c0_i32_40
  let c0_i32_41 : BitVec 32 := 0#32
  let v69 : BitVec 1 := Scalar.cmpi .slt v65 c0_i32_41
  let v70 : BitVec 1 := Scalar.xori v68 v69
  let c0_i32_39 : BitVec 32 := 0#32
  let v67 : BitVec 1 := Scalar.cmpi .ne v66 c0_i32_39
  let v71 : BitVec 1 := Scalar.andi v70 v67
  let v72 : BitVec 32 := Scalar.addi v66 v65
  let v73 : BitVec 32 := Scalar.select v71 v72 v66
  let c1_i32_43 : BitVec 32 := 1#32
  let v76 : BitVec 32 := Scalar.muli v73 c1_i32_43
  let v77 : BitVec 32 := Scalar.addi c0_i32_44 v76
  v77.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v78 : BitVec 32 := Scalar.addi v2 c6_i32
  let c8_i32_45 : BitVec 32 := 8#32
  let c0_i32_46 : BitVec 32 := 0#32
  let v79 : BitVec 1 := Scalar.cmpi .eq c8_i32_45 c0_i32_46
  let c1_i32_47 : BitVec 32 := 1#32
  let v80 : BitVec 32 := Scalar.select v79 c1_i32_47 c8_i32_45
  let v81 : BitVec 32 := Scalar.remsi v78 v80
  let c0_i32_49 : BitVec 32 := 0#32
  let v83 : BitVec 1 := Scalar.cmpi .slt v81 c0_i32_49
  let c0_i32_50 : BitVec 32 := 0#32
  let v84 : BitVec 1 := Scalar.cmpi .slt v80 c0_i32_50
  let v85 : BitVec 1 := Scalar.xori v83 v84
  let c0_i32_48 : BitVec 32 := 0#32
  let v82 : BitVec 1 := Scalar.cmpi .ne v81 c0_i32_48
  let v86 : BitVec 1 := Scalar.andi v85 v82
  let v87 : BitVec 32 := Scalar.addi v81 v80
  let v88 : BitVec 32 := Scalar.select v86 v87 v81
  let c1_i32_52 : BitVec 32 := 1#32
  let v91 : BitVec 32 := Scalar.muli v88 c1_i32_52
  let v92 : BitVec 32 := Scalar.addi c0_i32_53 v91
  v92.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v93 : BitVec 32 := Scalar.addi v2 c7_i32
  let c8_i32_54 : BitVec 32 := 8#32
  let c0_i32_55 : BitVec 32 := 0#32
  let v94 : BitVec 1 := Scalar.cmpi .eq c8_i32_54 c0_i32_55
  let c1_i32_56 : BitVec 32 := 1#32
  let v95 : BitVec 32 := Scalar.select v94 c1_i32_56 c8_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_61 : BitVec 32 := 1#32
  let v106 : BitVec 32 := Scalar.muli v103 c1_i32_61
  let v107 : BitVec 32 := Scalar.addi c0_i32_62 v106
  v107.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v109 : BitVec 32 := Scalar.muli v2 c1_i32_64
  let v110 : BitVec 32 := Scalar.addi c0_i32_65 v109
  v110.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v111 : BitVec 32 := Scalar.muli v2 c512_i32
  let c0_i32_71 : BitVec 32 := 0#32
  ![v111.toNat, 0]
def k0_off3 (d0 : Dev nD) (c1_i32_72 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v117 : BitVec 32 := Scalar.addi v2 c1_i32_72
  let c8_i32_73 : BitVec 32 := 8#32
  let c0_i32_74 : BitVec 32 := 0#32
  let v118 : BitVec 1 := Scalar.cmpi .eq c8_i32_73 c0_i32_74
  let c1_i32_75 : BitVec 32 := 1#32
  let v119 : BitVec 32 := Scalar.select v118 c1_i32_75 c8_i32_73
  let v120 : BitVec 32 := Scalar.remsi v117 v119
  let c0_i32_77 : BitVec 32 := 0#32
  let v122 : BitVec 1 := Scalar.cmpi .slt v120 c0_i32_77
  let c0_i32_78 : BitVec 32 := 0#32
  let v123 : BitVec 1 := Scalar.cmpi .slt v119 c0_i32_78
  let v124 : BitVec 1 := Scalar.xori v122 v123
  let c0_i32_76 : BitVec 32 := 0#32
  let v121 : BitVec 1 := Scalar.cmpi .ne v120 c0_i32_76
  let v125 : BitVec 1 := Scalar.andi v124 v121
  let v126 : BitVec 32 := Scalar.addi v120 v119
  let v127 : BitVec 32 := Scalar.select v125 v126 v120
  let c512_i32_79 : BitVec 32 := 512#32
  let v128 : BitVec 32 := Scalar.muli v127 c512_i32_79
  let c0_i32_84 : BitVec 32 := 0#32
  ![v128.toNat, 0]
def k0_off4 (d0 : Dev nD) (c1_i32_98 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v151 : BitVec 32 := Scalar.addi v2 c1_i32_98
  let c8_i32_99 : BitVec 32 := 8#32
  let c0_i32_100 : BitVec 32 := 0#32
  let v152 : BitVec 1 := Scalar.cmpi .eq c8_i32_99 c0_i32_100
  let c1_i32_101 : BitVec 32 := 1#32
  let v153 : BitVec 32 := Scalar.select v152 c1_i32_101 c8_i32_99
  let v154 : BitVec 32 := Scalar.remsi v151 v153
  let c0_i32_103 : BitVec 32 := 0#32
  let v156 : BitVec 1 := Scalar.cmpi .slt v154 c0_i32_103
  let c0_i32_104 : BitVec 32 := 0#32
  let v157 : BitVec 1 := Scalar.cmpi .slt v153 c0_i32_104
  let v158 : BitVec 1 := Scalar.xori v156 v157
  let c0_i32_102 : BitVec 32 := 0#32
  let v155 : BitVec 1 := Scalar.cmpi .ne v154 c0_i32_102
  let v159 : BitVec 1 := Scalar.andi v158 v155
  let v160 : BitVec 32 := Scalar.addi v154 v153
  let v161 : BitVec 32 := Scalar.select v159 v160 v154
  let c512_i32_113 : BitVec 32 := 512#32
  let v171 : BitVec 32 := Scalar.muli v161 c512_i32_113
  let v172 : Index := Scalar.indexCast v171
  let c0_114 : Index := 0#32
  ![v172.toNat, 0]
def k0_off5 (d0 : Dev nD) (c1_i32_115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v176 : BitVec 32 := Scalar.addi v2 c1_i32_115
  let c2_i32_116 : BitVec 32 := 2#32
  let v177 : BitVec 32 := Scalar.addi v176 c2_i32_116
  let c8_i32_117 : BitVec 32 := 8#32
  let c0_i32_118 : BitVec 32 := 0#32
  let v178 : BitVec 1 := Scalar.cmpi .eq c8_i32_117 c0_i32_118
  let c1_i32_119 : BitVec 32 := 1#32
  let v179 : BitVec 32 := Scalar.select v178 c1_i32_119 c8_i32_117
  let v180 : BitVec 32 := Scalar.remsi v177 v179
  let c0_i32_121 : BitVec 32 := 0#32
  let v182 : BitVec 1 := Scalar.cmpi .slt v180 c0_i32_121
  let c0_i32_122 : BitVec 32 := 0#32
  let v183 : BitVec 1 := Scalar.cmpi .slt v179 c0_i32_122
  let v184 : BitVec 1 := Scalar.xori v182 v183
  let c0_i32_120 : BitVec 32 := 0#32
  let v181 : BitVec 1 := Scalar.cmpi .ne v180 c0_i32_120
  let v185 : BitVec 1 := Scalar.andi v184 v181
  let v186 : BitVec 32 := Scalar.addi v180 v179
  let v187 : BitVec 32 := Scalar.select v185 v186 v180
  let c512_i32_123 : BitVec 32 := 512#32
  let v188 : BitVec 32 := Scalar.muli v187 c512_i32_123
  let c0_i32_128 : BitVec 32 := 0#32
  ![v188.toNat, 0]
def k0_off6 (d0 : Dev nD) (c1_i32_98 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v151 : BitVec 32 := Scalar.addi v2 c1_i32_98
  let c8_i32_99 : BitVec 32 := 8#32
  let c0_i32_100 : BitVec 32 := 0#32
  let v152 : BitVec 1 := Scalar.cmpi .eq c8_i32_99 c0_i32_100
  let c1_i32_101 : BitVec 32 := 1#32
  let v153 : BitVec 32 := Scalar.select v152 c1_i32_101 c8_i32_99
  let v154 : BitVec 32 := Scalar.remsi v151 v153
  let c0_i32_103 : BitVec 32 := 0#32
  let v156 : BitVec 1 := Scalar.cmpi .slt v154 c0_i32_103
  let c0_i32_104 : BitVec 32 := 0#32
  let v157 : BitVec 1 := Scalar.cmpi .slt v153 c0_i32_104
  let v158 : BitVec 1 := Scalar.xori v156 v157
  let c0_i32_102 : BitVec 32 := 0#32
  let v155 : BitVec 1 := Scalar.cmpi .ne v154 c0_i32_102
  let v159 : BitVec 1 := Scalar.andi v158 v155
  let v160 : BitVec 32 := Scalar.addi v154 v153
  let v161 : BitVec 32 := Scalar.select v159 v160 v154
  ![v161.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_135 : BitVec 32 := 0#32
  let c0_i32_136 : BitVec 32 := 0#32
  ![v2.toNat, 0, 0]
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_98 : BitVec 32 := 1#32
  let v151 : BitVec 32 := Scalar.addi v2 c1_i32_98
  let c8_i32_99 : BitVec 32 := 8#32
  let c0_i32_100 : BitVec 32 := 0#32
  let v152 : BitVec 1 := Scalar.cmpi .eq c8_i32_99 c0_i32_100
  let c1_i32_101 : BitVec 32 := 1#32
  let v153 : BitVec 32 := Scalar.select v152 c1_i32_101 c8_i32_99
  let v154 : BitVec 32 := Scalar.remsi v151 v153
  let c0_i32_103 : BitVec 32 := 0#32
  let v156 : BitVec 1 := Scalar.cmpi .slt v154 c0_i32_103
  let c0_i32_104 : BitVec 32 := 0#32
  let v157 : BitVec 1 := Scalar.cmpi .slt v153 c0_i32_104
  let v158 : BitVec 1 := Scalar.xori v156 v157
  let c0_i32_102 : BitVec 32 := 0#32
  let v155 : BitVec 1 := Scalar.cmpi .ne v154 c0_i32_102
  let v159 : BitVec 1 := Scalar.andi v158 v155
  let v160 : BitVec 32 := Scalar.addi v154 v153
  let v161 : BitVec 32 := Scalar.select v159 v160 v154
  let c1_i32_133 : BitVec 32 := 1#32
  let v197 : BitVec 32 := Scalar.muli v161 c1_i32_133
  let v198 : BitVec 32 := Scalar.addi c0_i32_134 v197
  v198.toNat
def k0_dev10 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_138 : BitVec 32 := 2#32
  let v206 : BitVec 32 := Scalar.addi v2 c2_i32_138
  let c8_i32_139 : BitVec 32 := 8#32
  let c0_i32_140 : BitVec 32 := 0#32
  let v207 : BitVec 1 := Scalar.cmpi .eq c8_i32_139 c0_i32_140
  let c1_i32_141 : BitVec 32 := 1#32
  let v208 : BitVec 32 := Scalar.select v207 c1_i32_141 c8_i32_139
  let v209 : BitVec 32 := Scalar.remsi v206 v208
  let c0_i32_143 : BitVec 32 := 0#32
  let v211 : BitVec 1 := Scalar.cmpi .slt v209 c0_i32_143
  let c0_i32_144 : BitVec 32 := 0#32
  let v212 : BitVec 1 := Scalar.cmpi .slt v208 c0_i32_144
  let v213 : BitVec 1 := Scalar.xori v211 v212
  let c0_i32_142 : BitVec 32 := 0#32
  let v210 : BitVec 1 := Scalar.cmpi .ne v209 c0_i32_142
  let v214 : BitVec 1 := Scalar.andi v213 v210
  let v215 : BitVec 32 := Scalar.addi v209 v208
  let v216 : BitVec 32 := Scalar.select v214 v215 v209
  let c1_i32_173 : BitVec 32 := 1#32
  let v252 : BitVec 32 := Scalar.muli v216 c1_i32_173
  let v253 : BitVec 32 := Scalar.addi c0_i32_174 v252
  v253.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_178 : BitVec 32 := 3#32
  let v261 : BitVec 32 := Scalar.addi v2 c3_i32_178
  let c8_i32_179 : BitVec 32 := 8#32
  let c0_i32_180 : BitVec 32 := 0#32
  let v262 : BitVec 1 := Scalar.cmpi .eq c8_i32_179 c0_i32_180
  let c1_i32_181 : BitVec 32 := 1#32
  let v263 : BitVec 32 := Scalar.select v262 c1_i32_181 c8_i32_179
  let v264 : BitVec 32 := Scalar.remsi v261 v263
  let c0_i32_183 : BitVec 32 := 0#32
  let v266 : BitVec 1 := Scalar.cmpi .slt v264 c0_i32_183
  let c0_i32_184 : BitVec 32 := 0#32
  let v267 : BitVec 1 := Scalar.cmpi .slt v263 c0_i32_184
  let v268 : BitVec 1 := Scalar.xori v266 v267
  let c0_i32_182 : BitVec 32 := 0#32
  let v265 : BitVec 1 := Scalar.cmpi .ne v264 c0_i32_182
  let v269 : BitVec 1 := Scalar.andi v268 v265
  let v270 : BitVec 32 := Scalar.addi v264 v263
  let v271 : BitVec 32 := Scalar.select v269 v270 v264
  let c1_i32_214 : BitVec 32 := 1#32
  let v307 : BitVec 32 := Scalar.muli v271 c1_i32_214
  let v308 : BitVec 32 := Scalar.addi c0_i32_215 v307
  v308.toNat
def k0_dev12 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v316 : BitVec 32 := Scalar.addi v2 c4_i32_219
  let c8_i32_220 : BitVec 32 := 8#32
  let c0_i32_221 : BitVec 32 := 0#32
  let v317 : BitVec 1 := Scalar.cmpi .eq c8_i32_220 c0_i32_221
  let c1_i32_222 : BitVec 32 := 1#32
  let v318 : BitVec 32 := Scalar.select v317 c1_i32_222 c8_i32_220
  let v319 : BitVec 32 := Scalar.remsi v316 v318
  let c0_i32_224 : BitVec 32 := 0#32
  let v321 : BitVec 1 := Scalar.cmpi .slt v319 c0_i32_224
  let c0_i32_225 : BitVec 32 := 0#32
  let v322 : BitVec 1 := Scalar.cmpi .slt v318 c0_i32_225
  let v323 : BitVec 1 := Scalar.xori v321 v322
  let c0_i32_223 : BitVec 32 := 0#32
  let v320 : BitVec 1 := Scalar.cmpi .ne v319 c0_i32_223
  let v324 : BitVec 1 := Scalar.andi v323 v320
  let v325 : BitVec 32 := Scalar.addi v319 v318
  let v326 : BitVec 32 := Scalar.select v324 v325 v319
  let c1_i32_255 : BitVec 32 := 1#32
  let v362 : BitVec 32 := Scalar.muli v326 c1_i32_255
  let v363 : BitVec 32 := Scalar.addi c0_i32_256 v362
  v363.toNat
def k0_dev13 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_260 : BitVec 32 := 5#32
  let v371 : BitVec 32 := Scalar.addi v2 c5_i32_260
  let c8_i32_261 : BitVec 32 := 8#32
  let c0_i32_262 : BitVec 32 := 0#32
  let v372 : BitVec 1 := Scalar.cmpi .eq c8_i32_261 c0_i32_262
  let c1_i32_263 : BitVec 32 := 1#32
  let v373 : BitVec 32 := Scalar.select v372 c1_i32_263 c8_i32_261
  let v374 : BitVec 32 := Scalar.remsi v371 v373
  let c0_i32_265 : BitVec 32 := 0#32
  let v376 : BitVec 1 := Scalar.cmpi .slt v374 c0_i32_265
  let c0_i32_266 : BitVec 32 := 0#32
  let v377 : BitVec 1 := Scalar.cmpi .slt v373 c0_i32_266
  let v378 : BitVec 1 := Scalar.xori v376 v377
  let c0_i32_264 : BitVec 32 := 0#32
  let v375 : BitVec 1 := Scalar.cmpi .ne v374 c0_i32_264
  let v379 : BitVec 1 := Scalar.andi v378 v375
  let v380 : BitVec 32 := Scalar.addi v374 v373
  let v381 : BitVec 32 := Scalar.select v379 v380 v374
  let c1_i32_296 : BitVec 32 := 1#32
  let v417 : BitVec 32 := Scalar.muli v381 c1_i32_296
  let v418 : BitVec 32 := Scalar.addi c0_i32_297 v417
  v418.toNat
def k0_dev14 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_301 : BitVec 32 := 6#32
  let v426 : BitVec 32 := Scalar.addi v2 c6_i32_301
  let c8_i32_302 : BitVec 32 := 8#32
  let c0_i32_303 : BitVec 32 := 0#32
  let v427 : BitVec 1 := Scalar.cmpi .eq c8_i32_302 c0_i32_303
  let c1_i32_304 : BitVec 32 := 1#32
  let v428 : BitVec 32 := Scalar.select v427 c1_i32_304 c8_i32_302
  let v429 : BitVec 32 := Scalar.remsi v426 v428
  let c0_i32_306 : BitVec 32 := 0#32
  let v431 : BitVec 1 := Scalar.cmpi .slt v429 c0_i32_306
  let c0_i32_307 : BitVec 32 := 0#32
  let v432 : BitVec 1 := Scalar.cmpi .slt v428 c0_i32_307
  let v433 : BitVec 1 := Scalar.xori v431 v432
  let c0_i32_305 : BitVec 32 := 0#32
  let v430 : BitVec 1 := Scalar.cmpi .ne v429 c0_i32_305
  let v434 : BitVec 1 := Scalar.andi v433 v430
  let v435 : BitVec 32 := Scalar.addi v429 v428
  let v436 : BitVec 32 := Scalar.select v434 v435 v429
  let c1_i32_337 : BitVec 32 := 1#32
  let v472 : BitVec 32 := Scalar.muli v436 c1_i32_337
  let v473 : BitVec 32 := Scalar.addi c0_i32_338 v472
  v473.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_342 : BitVec 32 := 7#32
  let v481 : BitVec 32 := Scalar.addi v2 c7_i32_342
  let c8_i32_343 : BitVec 32 := 8#32
  let c0_i32_344 : BitVec 32 := 0#32
  let v482 : BitVec 1 := Scalar.cmpi .eq c8_i32_343 c0_i32_344
  let c1_i32_345 : BitVec 32 := 1#32
  let v483 : BitVec 32 := Scalar.select v482 c1_i32_345 c8_i32_343
  let v484 : BitVec 32 := Scalar.remsi v481 v483
  let c0_i32_347 : BitVec 32 := 0#32
  let v486 : BitVec 1 := Scalar.cmpi .slt v484 c0_i32_347
  let c0_i32_348 : BitVec 32 := 0#32
  let v487 : BitVec 1 := Scalar.cmpi .slt v483 c0_i32_348
  let v488 : BitVec 1 := Scalar.xori v486 v487
  let c0_i32_346 : BitVec 32 := 0#32
  let v485 : BitVec 1 := Scalar.cmpi .ne v484 c0_i32_346
  let v489 : BitVec 1 := Scalar.andi v488 v485
  let v490 : BitVec 32 := Scalar.addi v484 v483
  let v491 : BitVec 32 := Scalar.select v489 v490 v484
  let c1_i32_364 : BitVec 32 := 1#32
  let v509 : BitVec 32 := Scalar.muli v491 c1_i32_364
  let v510 : BitVec 32 := Scalar.addi c0_i32_365 v509
  v510.toNat
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v552 : Index := Scalar.indexCast v2
  let c0_396 : Index := 0#32
  let c0_397 : Index := 0#32
  ![v552.toNat, 0, 0]
def k0_off9 (d0 : Dev nD) (c1_i32_398 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v556 : BitVec 32 := Scalar.subi v2 c1_i32_398
  let c8_i32_399 : BitVec 32 := 8#32
  let c0_i32_400 : BitVec 32 := 0#32
  let v557 : BitVec 1 := Scalar.cmpi .eq c8_i32_399 c0_i32_400
  let c1_i32_401 : BitVec 32 := 1#32
  let v558 : BitVec 32 := Scalar.select v557 c1_i32_401 c8_i32_399
  let v559 : BitVec 32 := Scalar.remsi v556 v558
  let c0_i32_403 : BitVec 32 := 0#32
  let v561 : BitVec 1 := Scalar.cmpi .slt v559 c0_i32_403
  let c0_i32_404 : BitVec 32 := 0#32
  let v562 : BitVec 1 := Scalar.cmpi .slt v558 c0_i32_404
  let v563 : BitVec 1 := Scalar.xori v561 v562
  let c0_i32_402 : BitVec 32 := 0#32
  let v560 : BitVec 1 := Scalar.cmpi .ne v559 c0_i32_402
  let v564 : BitVec 1 := Scalar.andi v563 v560
  let v565 : BitVec 32 := Scalar.addi v559 v558
  let v566 : BitVec 32 := Scalar.select v564 v565 v559
  let c512_i32_405 : BitVec 32 := 512#32
  let v567 : BitVec 32 := Scalar.muli v566 c512_i32_405
  let c0_i32_410 : BitVec 32 := 0#32
  ![v567.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_411 : BitVec 32 := 512#32
  let v573 : BitVec 32 := Scalar.muli v2 c512_i32_411
  let v574 : Index := Scalar.indexCast v573
  let c0_412 : Index := 0#32
  ![v574.toNat, 0]
def k0_off11 (d0 : Dev nD) (c1_i32_417 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v583 : BitVec 32 := Scalar.subi v2 c1_i32_417
  let c8_i32_418 : BitVec 32 := 8#32
  let c0_i32_419 : BitVec 32 := 0#32
  let v584 : BitVec 1 := Scalar.cmpi .eq c8_i32_418 c0_i32_419
  let c1_i32_420 : BitVec 32 := 1#32
  let v585 : BitVec 32 := Scalar.select v584 c1_i32_420 c8_i32_418
  let v586 : BitVec 32 := Scalar.remsi v583 v585
  let c0_i32_422 : BitVec 32 := 0#32
  let v588 : BitVec 1 := Scalar.cmpi .slt v586 c0_i32_422
  let c0_i32_423 : BitVec 32 := 0#32
  let v589 : BitVec 1 := Scalar.cmpi .slt v585 c0_i32_423
  let v590 : BitVec 1 := Scalar.xori v588 v589
  let c0_i32_421 : BitVec 32 := 0#32
  let v587 : BitVec 1 := Scalar.cmpi .ne v586 c0_i32_421
  let v591 : BitVec 1 := Scalar.andi v590 v587
  let v592 : BitVec 32 := Scalar.addi v586 v585
  let v593 : BitVec 32 := Scalar.select v591 v592 v586
  let v620 : Index := Scalar.indexCast v593
  let c0_446 : Index := 0#32
  let c0_447 : Index := 0#32
  ![v620.toNat, 0, 0]
def k0_off12 (d0 : Dev nD) (c1_i32_417 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v583 : BitVec 32 := Scalar.subi v2 c1_i32_417
  let c8_i32_418 : BitVec 32 := 8#32
  let c0_i32_419 : BitVec 32 := 0#32
  let v584 : BitVec 1 := Scalar.cmpi .eq c8_i32_418 c0_i32_419
  let c1_i32_420 : BitVec 32 := 1#32
  let v585 : BitVec 32 := Scalar.select v584 c1_i32_420 c8_i32_418
  let v586 : BitVec 32 := Scalar.remsi v583 v585
  let c0_i32_422 : BitVec 32 := 0#32
  let v588 : BitVec 1 := Scalar.cmpi .slt v586 c0_i32_422
  let c0_i32_423 : BitVec 32 := 0#32
  let v589 : BitVec 1 := Scalar.cmpi .slt v585 c0_i32_423
  let v590 : BitVec 1 := Scalar.xori v588 v589
  let c0_i32_421 : BitVec 32 := 0#32
  let v587 : BitVec 1 := Scalar.cmpi .ne v586 c0_i32_421
  let v591 : BitVec 1 := Scalar.andi v590 v587
  let v592 : BitVec 32 := Scalar.addi v586 v585
  let v593 : BitVec 32 := Scalar.select v591 v592 v586
  ![v593.toNat]
def k0_off13 (d0 : Dev nD) (c1_i32_417 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v583 : BitVec 32 := Scalar.subi v2 c1_i32_417
  let c8_i32_418 : BitVec 32 := 8#32
  let c0_i32_419 : BitVec 32 := 0#32
  let v584 : BitVec 1 := Scalar.cmpi .eq c8_i32_418 c0_i32_419
  let c1_i32_420 : BitVec 32 := 1#32
  let v585 : BitVec 32 := Scalar.select v584 c1_i32_420 c8_i32_418
  let v586 : BitVec 32 := Scalar.remsi v583 v585
  let c0_i32_422 : BitVec 32 := 0#32
  let v588 : BitVec 1 := Scalar.cmpi .slt v586 c0_i32_422
  let c0_i32_423 : BitVec 32 := 0#32
  let v589 : BitVec 1 := Scalar.cmpi .slt v585 c0_i32_423
  let v590 : BitVec 1 := Scalar.xori v588 v589
  let c0_i32_421 : BitVec 32 := 0#32
  let v587 : BitVec 1 := Scalar.cmpi .ne v586 c0_i32_421
  let v591 : BitVec 1 := Scalar.andi v590 v587
  let v592 : BitVec 32 := Scalar.addi v586 v585
  let v593 : BitVec 32 := Scalar.select v591 v592 v586
  let c0_i32_451 : BitVec 32 := 0#32
  let c0_i32_452 : BitVec 32 := 0#32
  ![v593.toNat, 0, 0]
def k0_off14 (d0 : Dev nD) (c1_i32_417 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v583 : BitVec 32 := Scalar.subi v2 c1_i32_417
  let c8_i32_418 : BitVec 32 := 8#32
  let c0_i32_419 : BitVec 32 := 0#32
  let v584 : BitVec 1 := Scalar.cmpi .eq c8_i32_418 c0_i32_419
  let c1_i32_420 : BitVec 32 := 1#32
  let v585 : BitVec 32 := Scalar.select v584 c1_i32_420 c8_i32_418
  let v586 : BitVec 32 := Scalar.remsi v583 v585
  let c0_i32_422 : BitVec 32 := 0#32
  let v588 : BitVec 1 := Scalar.cmpi .slt v586 c0_i32_422
  let c0_i32_423 : BitVec 32 := 0#32
  let v589 : BitVec 1 := Scalar.cmpi .slt v585 c0_i32_423
  let v590 : BitVec 1 := Scalar.xori v588 v589
  let c0_i32_421 : BitVec 32 := 0#32
  let v587 : BitVec 1 := Scalar.cmpi .ne v586 c0_i32_421
  let v591 : BitVec 1 := Scalar.andi v590 v587
  let v592 : BitVec 32 := Scalar.addi v586 v585
  let v593 : BitVec 32 := Scalar.select v591 v592 v586
  let v632 : Index := Scalar.indexCast v593
  let c0_455 : Index := 0#32
  let c0_456 : Index := 0#32
  ![v632.toNat, 0, 0]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_675 : BitVec 32 := 7#32
  let v925 : BitVec 32 := Scalar.subi v2 c7_i32_675
  let c8_i32_676 : BitVec 32 := 8#32
  let c0_i32_677 : BitVec 32 := 0#32
  let v926 : BitVec 1 := Scalar.cmpi .eq c8_i32_676 c0_i32_677
  let c1_i32_678 : BitVec 32 := 1#32
  let v927 : BitVec 32 := Scalar.select v926 c1_i32_678 c8_i32_676
  let v928 : BitVec 32 := Scalar.remsi v925 v927
  let c0_i32_680 : BitVec 32 := 0#32
  let v930 : BitVec 1 := Scalar.cmpi .slt v928 c0_i32_680
  let c0_i32_681 : BitVec 32 := 0#32
  let v931 : BitVec 1 := Scalar.cmpi .slt v927 c0_i32_681
  let v932 : BitVec 1 := Scalar.xori v930 v931
  let c0_i32_679 : BitVec 32 := 0#32
  let v929 : BitVec 1 := Scalar.cmpi .ne v928 c0_i32_679
  let v933 : BitVec 1 := Scalar.andi v932 v929
  let v934 : BitVec 32 := Scalar.addi v928 v927
  let v935 : BitVec 32 := Scalar.select v933 v934 v928
  let v961 : Index := Scalar.indexCast v935
  let c0_702 : Index := 0#32
  let c0_703 : Index := 0#32
  ![v961.toNat, 0, 0]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_675 : BitVec 32 := 7#32
  let v925 : BitVec 32 := Scalar.subi v2 c7_i32_675
  let c8_i32_676 : BitVec 32 := 8#32
  let c0_i32_677 : BitVec 32 := 0#32
  let v926 : BitVec 1 := Scalar.cmpi .eq c8_i32_676 c0_i32_677
  let c1_i32_678 : BitVec 32 := 1#32
  let v927 : BitVec 32 := Scalar.select v926 c1_i32_678 c8_i32_676
  let v928 : BitVec 32 := Scalar.remsi v925 v927
  let c0_i32_680 : BitVec 32 := 0#32
  let v930 : BitVec 1 := Scalar.cmpi .slt v928 c0_i32_680
  let c0_i32_681 : BitVec 32 := 0#32
  let v931 : BitVec 1 := Scalar.cmpi .slt v927 c0_i32_681
  let v932 : BitVec 1 := Scalar.xori v930 v931
  let c0_i32_679 : BitVec 32 := 0#32
  let v929 : BitVec 1 := Scalar.cmpi .ne v928 c0_i32_679
  let v933 : BitVec 1 := Scalar.andi v932 v929
  let v934 : BitVec 32 := Scalar.addi v928 v927
  let v935 : BitVec 32 := Scalar.select v933 v934 v928
  let v982 : Index := Scalar.indexCast v935
  let c0_717 : Index := 0#32
  let c1024 : Index := 1024#32
  ![v982.toNat, 0, 1024]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Base.lean ====
/-
  The logic's set-up for this kernel, and the operations of its body at the level of owned memrefs.

  `owns c m q X` says that device `c` owns the elements of `m` and reads `X` through it. Each lemma here
  says what one operation does to such facts; the memref it names may be given in another spelling, by an
  equation of the two.
-/
module

public import proofs.«01_k».proof.Proof.Gen.KernelIdeal
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Pointwise.Reshape
public import Idealize.ShloMosaic.Lib.Tactic

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The ghost algebra: the launch's rounds, this kernel's rounds, and the counters of local copies. -/
abbrev UU : Type := UR sig nD τ × (UR sig nD τ × Counters)

local notation "𝕄" => MT nD τ sig Unit (Elt F) ℕ UU ℕ

/-- Where the launch's rounds live. -/
abbrev EP : Emb (UR sig nD τ) (MT nD τ sig Unit (Elt F) ℕ UU ℕ) := embL
/-- Where this kernel's rounds live. -/
def ER : Emb (UR sig nD τ) (MT nD τ sig Unit (Elt F) ℕ UU ℕ) :=
  (Emb.inl : Emb (UR sig nD τ) (UR sig nD τ × Counters)).trans embR
omit [FloatOps F] in
instance ER_landsIn : (ER : Emb (UR sig nD τ) 𝕄).LandsIn (upEmb : UEmb _ 𝕄) := by unfold ER; infer_instance
/-- Where the counters of local copies live. -/
abbrev EC : UEmb Counters (MT nD τ sig Unit (Elt F) ℕ UU ℕ) := countersEmb

/-- No loop of the kernel is counted down. -/
abbrev 𝒱₀ : Variants := Variants.none

/-- What is proved of a device's program `p` with result `Q`. -/
abbrev run (c : Dev nD) (p : Prog (TpuEff nD τ sig (Elt F) Λ₀ .tc) PUnit.{1}) (Q : PUnit.{1} → sProp 𝕄) : sProp 𝕄 :=
  wp frame (wpE (defs₀ (F := F)) 𝒱₀ (c : Thread nD τ) none) Set.univ p Q

/-- Device `c` owns the elements of `m` outright and reads `X` through it. -/
abbrev own (c : Dev nD) {sp : Space} {s : Shape} {e : EltTy} (m : Memref sig .tc sp s e) (X : s.Idx → Elt F e) : sProp 𝕄 :=
  owns (c : Thread nD τ) m fullShare X

/-- Device `c` owns the elements of `m`, whatever they are. -/
abbrev some' (c : Dev nD) {sp : Space} {s : Shape} {e : EltTy} (m : Memref sig .tc sp s e) : sProp 𝕄 :=
  iprop(∃ X, own (F := F) c m X)

/-- Device `c` still owes `O`, whatever it has waited for. -/
abbrev ow (c : Dev nD) (O : CellTallies nD τ sig Unit) : sProp 𝕄 := iprop(∃ W, owes (c : Thread nD τ) O W)

variable {c : Dev nD} {Q : PUnit.{1} → sProp (MT nD τ sig Unit (Elt F) ℕ UU ℕ)}

omit [FloatOps F] in
/-- What is owned at known contents is owned. -/
theorem own_some {sp : Space} {s : Shape} {e : EltTy} (m : Memref sig .tc sp s e) (X : s.Idx → Elt F e) : own c m X ⊢ some' (F := F) c m := by
  iintro H; iexists X; iexact H

omit [FloatOps F] in
/-- The elements of `m` at contents that read `X` through it. -/
theorem own_of_points {sp : Space} {s : Shape} {e : EltTy} (m : Memref sig .tc sp s e) {X : s.Idx → Elt F e} {f : Buf (Elt F) (m.view.loc (c : Thread nD τ))}
    (h : m.view.read (Elt F) f = X) : (m.view.loc (c : Thread nD τ) ↦[m.view.set]{fullShare} f) ⊢ own c m X := by
  unfold own owns
  iintro H; iexists f
  isplitr; · ipureintro; exact h
  iexact H

/-! ## A memref under another shape -/

omit [FloatOps F] in
/-- Reading through a squeezed memref is reading the memref and casting the shape. -/
theorem own_squeeze {sp : Space} {s s' : Shape} {e : EltTy} (m : Memref sig .tc sp s e) (h : s.Squeezes s') (hc : s.ShapeCasts s') (X : s.Idx → Elt F e) :
    own c m X ⊢ own c (m.squeeze s' h) (shapeCast s' X hc) := by
  unfold own owns
  iintro ⟨%f, %hf, H⟩
  iexists f
  isplitr
  · ipureintro; subst hf; rfl
  · simp only [Memref.view_squeeze, View.set_reshape]; iexact H

omit [FloatOps F] in
/-- and the other way round. -/
theorem own_unsqueeze {sp : Space} {s s' : Shape} {e : EltTy} (m : Memref sig .tc sp s e) (h : s.Squeezes s') (hc : s'.ShapeCasts s) (X : s'.Idx → Elt F e) :
    own c (m.squeeze s' h) X ⊢ own c m (shapeCast s X hc) := by
  unfold own owns
  iintro ⟨%f, %hf, H⟩
  iexists f
  isplitr
  · ipureintro; subst hf
    funext i
    show _ = m.view.read (Elt F) f (Shape.reshapeEquiv _ (Shape.reshapeEquiv hc i))
    rw [Shape.reshapeEquiv_reshapeEquiv, Shape.reshapeEquiv_self]
  · simp only [Memref.view_squeeze, View.set_reshape]; iexact H

/-! ## Loads and stores -/

/-- A load of a slice owned at `X` gives `X`. -/
theorem wp_loadOwn {cs : CoreSpace} {s : Shape} {e : EltTy} {m : Memref sig .tc cs s e} {off off' size : Fin s.rank → ℕ} (h : off = off')
    {inb : ∀ a, off a + size a ≤ s.size a} {inb' : ∀ a, off' a + size a ≤ s.size a} {hl : m.view.LoadsAt (Rect.unit off size inb).toLoadRect}
    {k : ((⟨s.rank, size⟩ : Shape).Idx → Elt F e) → Prog (TpuEff nD τ sig (Elt F) Λ₀ .tc) PUnit.{1}} {X : (Rect.unit off' size inb').shape.Idx → Elt F e} :
    own c (m.slice (Rect.unit off' size inb') fun _ => rfl) X
      ⊢ iprop((own c (m.slice (Rect.unit off' size inb') fun _ => rfl) X -∗ run c (k X) Q)
          -∗ run c (.op (.load m (Rect.unit off size inb).toLoadRect hl) k) Q) := by
  subst h
  iintro H Hk
  unfold own owns
  icases H with ⟨%f, %hf, H⟩
  iapply (wp_load_rect 𝒱₀ (c : Thread nD τ) none Set.univ (m := m) (r := Rect.unit off size inb) (subset_refl _)) $$ H
  iintro H
  subst hf
  iapply Hk
  iexists f
  isplitr; · ipureintro; rfl
  iexact H

/-- A load of a part of a slice owned at `X`, `d` further on, gives that part of `X`. -/
theorem wp_loadPart {cs : CoreSpace} {s : Shape} {e : EltTy} {m : Memref sig .tc cs s e} {off off' size size' d : Fin s.rank → ℕ} (h : off = fun a => off' a + d a)
    {inb : ∀ a, off a + size a ≤ s.size a} {inb' : ∀ a, off' a + size' a ≤ s.size a} (inbd : ∀ a, d a + size a ≤ (⟨s.rank, size'⟩ : Shape).size a)
    {hl : m.view.LoadsAt (Rect.unit off size inb).toLoadRect}
    {k : ((⟨s.rank, size⟩ : Shape).Idx → Elt F e) → Prog (TpuEff nD τ sig (Elt F) Λ₀ .tc) PUnit.{1}} {X : (Rect.unit off' size' inb').shape.Idx → Elt F e} :
    own c (m.slice (Rect.unit off' size' inb') fun _ => rfl) X
      ⊢ iprop((own c (m.slice (Rect.unit off' size' inb') fun _ => rfl) X -∗ run c (k fun i => X ((Rect.unit (s := ⟨s.rank, size'⟩) d size inbd).emb i)) Q)
          -∗ run c (.op (.load m (Rect.unit off size inb).toLoadRect hl) k) Q) := by
  have hemb : ∀ i, (Rect.unit off size inb).emb i = (Rect.unit off' size' inb').emb ((Rect.unit (s := ⟨s.rank, size'⟩) d size inbd).emb i) := fun i => by
    funext a
    apply Fin.ext
    rw [Rect.emb_apply, Rect.emb_apply, Rect.emb_apply]
    simp only [Rect.unit, h]
    omega
  iintro H Hk
  unfold own owns
  icases H with ⟨%f, %hf, H⟩
  iapply (wp_load_rect 𝒱₀ (c : Thread nD τ) none Set.univ (m := m) (r := Rect.unit off size inb) (S := (m.access (Rect.unit off' size' inb')).set) ?_) $$ H
  · intro x hx
    obtain ⟨i, -, rfl⟩ := Finset.mem_map.mp hx
    refine Finset.mem_map.mpr ⟨(Rect.unit (s := ⟨s.rank, size'⟩) d size inbd).emb i, Finset.mem_univ _, ?_⟩
    exact congrArg m.view.emb (hemb i).symm
  iintro H
  subst hf
  have e : (m.access (Rect.unit off size inb)).read (Elt F) f = fun i => (m.access (Rect.unit off' size' inb')).read (Elt F) f ((Rect.unit (s := ⟨s.rank, size'⟩) d size inbd).emb i) :=
    funext fun i => congrArg (m.view.read (Elt F) f) (hemb i)
  rw [e]
  iapply Hk
  iexists f
  isplitr; · ipureintro; rfl
  iexact H

/-- A load that is not used. -/
theorem wp_loadAny {cs : CoreSpace} {s : Shape} {e : EltTy} {m : Memref sig .tc cs s e} {off off' size : Fin s.rank → ℕ} (h : off = off')
    {inb : ∀ a, off a + size a ≤ s.size a} {inb' : ∀ a, off' a + size a ≤ s.size a} {hl : m.view.LoadsAt (Rect.unit off size inb).toLoadRect}
    {k : Prog (TpuEff nD τ sig (Elt F) Λ₀ .tc) PUnit.{1}} :
    some' c (m.slice (Rect.unit off' size inb') fun _ => rfl)
      ⊢ iprop((some' c (m.slice (Rect.unit off' size inb') fun _ => rfl) -∗ run c k Q)
          -∗ run c (.op (.load m (Rect.unit off size inb).toLoadRect hl) fun _ => k) Q) := by
  iintro ⟨%X, H⟩ Hk
  iapply (wp_loadOwn h) $$ H
  iintro H
  iapply Hk
  iexists X; iexact H

/-- A store to a whole slice leaves what was stored. -/
theorem wp_storeOwn {cs : CoreSpace} {s : Shape} {e : EltTy} {m : Memref sig .tc cs s e} {off off' size : Fin s.rank → ℕ} (h : off = off')
    {inb : ∀ a, off a + size a ≤ s.size a} {inb' : ∀ a, off' a + size a ≤ s.size a} {w : (Rect.unit off size inb).shape.Idx → Elt F e}
    {hx : (m.access (Rect.unit off size inb)).Stores Finset.univ} {hm}
    {k : Prog (TpuEff nD τ sig (Elt F) Λ₀ .tc) PUnit.{1}} :
    some' c (m.slice (Rect.unit off' size inb') fun _ => rfl)
      ⊢ iprop((own c (m.slice (Rect.unit off' size inb') fun _ => rfl) w -∗ run c k Q)
          -∗ run c (.op (.store m (Rect.unit off size inb) w Finset.univ hx hm) fun _ => k) Q) := by
  subst h
  iintro ⟨%X, H⟩ Hk
  unfold own owns
  icases H with ⟨%f, %hf, H⟩
  iapply (wp_store 𝒱₀ (c : Thread nD τ) none Set.univ (m := m) (r := Rect.unit off size inb) (Mk := Finset.univ) (S := (m.access (Rect.unit off size inb)).set)
    (View.setOn_subset_set _ _)) $$ H
  iintro H
  iapply Hk
  iexists _
  isplitr; swap; · iexact H
  ipureintro
  exact View.read_write_univ _ _

/-! ## Local copies -/

/-- Starting a local copy: the destination's elements, the source's and the counter go in; the copy in flight is
    to give back the destination reading what the source reads, and the source. -/
theorem wp_start {sp sp' : Space} {s : Shape} {e : EltTy} {src src₀ : Memref sig .tc sp s e} (h : src = src₀) {dst : Memref sig .tc sp' s e} {sm : DmaSem sig}
    {hsrc : src.view.WordExact} {hdst : dst.view.WordExact} {hsem : DmaTarget.Typed (nD := nD) (τ := τ) (p := .tc) sp (.dma sm) (.here dst)}
    {k : Prog (TpuEff nD τ sig (Elt F) Λ₀ .tc) PUnit.{1}} {X : s.Idx → Elt F e} (N : ℕ) (hN : dst.view.dmaCredit = N) (hN0 : 0 < N) :
    iprop(own c src₀ X ∗ some' c dst ∗ semVal ((c : Thread nD τ), .dma sm) 0)
      ⊢ iprop((Flight EC (c : Thread nD τ) (.dma sm) () N iprop(own c dst X ∗ own c src₀ X) -∗ run c k Q)
          -∗ run c (.op (.enqueueDma src (.here dst) (.dma sm) hsrc hdst hsem) fun _ => k) Q) := by
  subst h
  iintro ⟨Hs, ⟨%Y, Hd⟩, Hv⟩ Hk
  unfold own owns
  icases Hs with ⟨%fs, %hfs, Hs⟩
  icases Hd with ⟨%fd, %hfd, Hd⟩
  iapply (wp_dmaLocal EC 𝒱₀ (c : Thread nD τ) none (sm := .dma sm) () N hN hN0 (subset_refl dst.view.set)) $$ [Hs Hd Hv]
  · isplitl [Hs]; · iexact Hs
    isplitl [Hd]; · iexact Hd
    iexact Hv
  iintro HF
  iapply Hk
  iapply (Flight_mono EC (c : Thread nD τ) ?_) $$ HF
  subst hfs
  iintro ⟨Hd, Hs⟩
  isplitl [Hd]
  · iexists _
    isplitr; swap; · iexact Hd
    ipureintro
    exact View.read_write_univ _ _
  · iexists fs
    isplitr; · ipureintro; rfl
    iexact Hs

/-- Waiting for a local copy. -/
theorem wp_waitOwn {sp sp' : Space} {s s' : Shape} {e e' : EltTy} {src : Memref sig .tc sp s e} {dst : Memref sig .tc sp' s' e'} {sm : DmaSem sig}
    {hsrc : src.view.WordExact} {hdst : dst.view.WordExact} {k : Prog (TpuEff nD τ sig (Elt F) Λ₀ .tc) PUnit.{1}} {D : sProp 𝕄}
    {O : CellTallies nD τ sig Unit} {N : ℕ} (hN : dst.view.dmaCredit = N) :
    iprop(Flight EC (c : Thread nD τ) (.dma sm) () N D ∗ ow c O ∗ MayWait (c : Thread nD τ) (.dma sm) () O)
      ⊢ iprop((iprop(D ∗ semVal ((c : Thread nD τ), .dma sm) 0 ∗ ow c O) -∗ run c k Q)
          -∗ run c (.op (.waitDma2 sm src dst hsrc hdst) fun _ => k) Q) := by
  iintro ⟨HF, ⟨%W, HO⟩, HM⟩ Hk
  iapply (wp_waitLocalO EC 𝒱₀ (c : Thread nD τ) none () hN) $$ [HF HO HM]
  · isplitl [HF]; · iexact HF
    isplitl [HO]; · iexact HO
    iexact HM
  iintro ⟨HD, Hv, HO⟩
  iapply Hk
  isplitl [HD]; · iexact HD
  isplitl [Hv]; · iexact Hv
  iexists _; iexact HO

end Cert.KernelIdeal.Gemm

end
-- ==== Proof.Steps.lean ====
/-
  The body of one device as a sequence of named steps.

  The body is long because its loops over the eight row blocks are unrolled. Each step here is one
  stretch of it with the block number as a parameter, followed by the program `k` that comes next. The
  theorem at the end, `body_eq_steps`, says the body is these steps in order.
-/
module

public import proofs.«01_k».proof.Proof.Gen.KernelIdeal
public import proofs.«01_k».proof.Proof.Gen.KernelIdeal.Skeleton

@[expose] public section

noncomputable section

namespace Cert.KernelIdeal.Gemm

open Cert.KernelIdeal Cert.KernelIdeal.Gen
open Idealize.ShloMosaic
open Idealize.SL.Sem

variable {F : FTy → Type} [FloatOps F]

/-- Programs of one device's body, over the float reading `F`. -/
abbrev Body (F : FTy → Type) : Type 1 := Prog (TpuEff nD τ sig (Elt F) Λ₀ Proc.tc) PUnit.{1}

/-! ## Places -/

/-- The parity of `n`, which picks one of two staging slots. -/
abbrev par (n : ℕ) : Fin 2 := ⟨n % 2, Nat.mod_lt _ (by decide)⟩

theorem slotX_inb : ∀ t : Fin 2, ∀ a, (![t.val, 0, 0] : Fin 3 → ℕ) a + S1x512x512.size a ≤ S2x512x512.size a := by decide
theorem slotW_inb : ∀ t : Fin 2, ∀ a, (![t.val, 0, 0] : Fin 3 → ℕ) a + S1x512x2048.size a ≤ S2x512x2048.size a := by decide
theorem slotO_inb : ∀ t : Fin 2, ∀ a, (![t.val, 0, 0] : Fin 3 → ℕ) a + S1x512x1024.size a ≤ S2x512x1024.size a := by decide
theorem two_inb : ∀ t : Fin 2, ∀ a, (![t.val] : Fin 1 → ℕ) a + S1.size a ≤ S2.size a := by decide
theorem eight_inb : ∀ i : Fin 8, ∀ a, (![i.val] : Fin 1 → ℕ) a + S1.size a ≤ S8.size a := by decide
theorem cols_inb : ∀ t : Fin 2, ∀ a, (![0, 1024 * t.val] : Fin 2 → ℕ) a + S512x1024.size a ≤ S512x2048.size a := by decide

/-- Staging slot `t` of the x blocks. -/
abbrev slotX (t : Fin 2) : Rect S2x512x512 := Rect.unit (s := S2x512x512) ![t.val, 0, 0] S1x512x512.size (slotX_inb t)
/-- Staging slot `t` of the weight blocks. -/
abbrev slotW (t : Fin 2) : Rect S2x512x2048 := Rect.unit (s := S2x512x2048) ![t.val, 0, 0] S1x512x2048.size (slotW_inb t)
/-- Staging slot `t` of the halves of the result. -/
abbrev slotO (t : Fin 2) : Rect S2x512x1024 := Rect.unit (s := S2x512x1024) ![t.val, 0, 0] S1x512x1024.size (slotO_inb t)
/-- Half `t` of the result's columns. -/
abbrev colsO (t : Fin 2) : Rect S512x2048 := Rect.unit (s := S512x2048) ![0, 1024 * t.val] S512x1024.size (cols_inb t)

/-- The x staging slot as the copies see it. -/
abbrev xstage (t : Fin 2) : Memref sig .tc .vmem S512x512 .f32 :=
  ((Memref.whole cc0_scratch2).slice (slotX t) (fun _ => rfl)).squeeze S512x512 squeezes_S1x512x512_S512x512
/-- The weight staging slot as the copies see it. -/
abbrev wstage (t : Fin 2) : Memref sig .tc .vmem S512x2048 .f32 :=
  ((Memref.whole cc0_scratch3).slice (slotW t) (fun _ => rfl)).squeeze S512x2048 squeezes_S1x512x2048_S512x2048
/-- The result staging slot as the copies see it. -/
abbrev ostage (t : Fin 2) : Memref sig .tc .vmem S512x1024 .f32 :=
  ((Memref.whole cc0_scratch5).slice (slotO t) (fun _ => rfl)).squeeze S512x1024 squeezes_S1x512x1024_S512x1024
/-- Half `t` of the result. -/
abbrev ohalf (t : Fin 2) : Memref sig .tc .hbm S512x1024 .f32 :=
  (Memref.whole main_v1).slice (colsO t) (fun _ => rfl)

/-- The counter of the copies into x staging slot `t`. -/
abbrev xsem (t : Fin 2) : DmaSem sig :=
  ((cc0_scratch8.slice (Rect.unit (s := S2) ![t.val] S1.size (two_inb t))).squeeze S_ squeezes_S1_S_).sem
/-- The counter of the copies into weight staging slot `t`. -/
abbrev wsem (t : Fin 2) : DmaSem sig :=
  ((cc0_scratch9.slice (Rect.unit (s := S2) ![t.val] S1.size (two_inb t))).squeeze S_ squeezes_S1_S_).sem
/-- The counter of the copy out of result staging slot `t`. -/
abbrev osem (t : Fin 2) : DmaSem sig :=
  ((cc0_scratch10.slice (Rect.unit (s := S2) ![t.val] S1.size (two_inb t))).squeeze S_ squeezes_S1_S_).sem
/-- The counter of the `i`-th copy to another device, on the sender. -/
abbrev sendSem (i : Fin 8) : DmaSem sig :=
  ((cc0_scratch6.slice (Rect.unit (s := S8) ![i.val] S1.size (eight_inb i))).squeeze S_ squeezes_S1_S_).sem
/-- The counter of what device `s` sends, on the receiver. -/
abbrev recvSem (s : Fin 8) : DmaSem sig :=
  ((cc0_scratch7.slice (Rect.unit (s := S8) ![s.val] S1.size (eight_inb s))).squeeze S_ squeezes_S1_S_).sem
/-- The counter on which device `s` says that it may be sent to. -/
abbrev readySem (s : Fin 8) : Sem sig :=
  ((cc0_scratch11.slice (Rect.unit (s := S8) ![s.val] S1.size (eight_inb s))).squeeze S_ squeezes_S1_S_).sem
/-- The barrier's counter. -/
abbrev barrierSem : Sem sig := (SemArray.scalar (sig.barrier 0 rfl) : Sems sig S_).sem

/-- The rows of the x array that step `r` of device `c` reads: the block of device `c + r + 1`. -/
abbrev xsrc (c : Dev nD) (r : Fin 8) : Memref sig .tc .hbm S512x512 .f32 :=
  (Memref.whole main_arg0).slice (Rect.unit (s := S4096x512) (k0_off3 c (BitVec.ofNat 32 (1 + r.val))) S512x512.size (k0_off3_inb c r)) (fun _ => rfl)
/-- The rows read two steps after step `r`. -/
abbrev xsrc2 (c : Dev nD) (r : Fin 6) : Memref sig .tc .hbm S512x512 .f32 :=
  (Memref.whole main_arg0).slice (Rect.unit (s := S4096x512) (k0_off5 c (BitVec.ofNat 32 (1 + r.val))) S512x512.size (k0_off5_inb c r)) (fun _ => rfl)
/-- The rows of the weights that meet the device's own block. -/
abbrev wsrc0 (c : Dev nD) : Memref sig .tc .hbm S512x2048 .f32 :=
  (Memref.whole main_arg1).slice (Rect.unit (s := S4096x2048) (k0_off2 c) S512x2048.size (k0_off2_inb c)) (fun _ => rfl)
/-- The rows of the weights that meet the block from device `c - j - 1`. -/
abbrev wsrc (c : Dev nD) (j : Fin 7) : Memref sig .tc .hbm S512x2048 .f32 :=
  (Memref.whole main_arg1).slice (Rect.unit (s := S4096x2048) (k0_off9 c (BitVec.ofNat 32 (1 + j.val))) S512x2048.size (k0_off9_inb c j)) (fun _ => rfl)
/-- The rounded x block that step `r` sends. -/
abbrev x8src (c : Dev nD) (r : Fin 8) : Memref sig .tc .vmem S512x512 .fp8e4m3 :=
  (Memref.whole cc0_scratch0).slice (Rect.unit (s := S4096x512) (k0_off3 c (BitVec.ofNat 32 (1 + r.val))) S512x512.size (k0_off3_inb c r)) (fun _ => rfl)
/-- The place of what device `c` sends, on any receiver. -/
abbrev bufdst (c : Dev nD) : Memref sig .tc .vmem S512x512 .fp8e4m3 :=
  ((Memref.whole cc0_scratch1).slice (Rect.unit (s := S8x512x512) (k0_off7 c) S1x512x512.size (k0_off7_inb c)) (fun _ => rfl)).squeeze S512x512 squeezes_S1x512x512_S512x512
/-- The place of what device `c - j - 1` sent. -/
abbrev bufsrc (c : Dev nD) (j : Fin 7) : Memref sig .tc .vmem S512x512 .fp8e4m3 :=
  ((Memref.whole cc0_scratch1).slice (Rect.unit (s := S8x512x512) (k0_off13 c (BitVec.ofNat 32 (1 + j.val))) S1x512x512.size (k0_off13_inb c j)) (fun _ => rfl)).squeeze S512x512 squeezes_S1x512x512_S512x512
/-- The device's own counter among eight, `ready` side. -/
abbrev readyOwn (c : Dev nD) : Sem sig :=
  ((cc0_scratch11.slice (Rect.unit (s := S8) (k0_off1 c) S1.size (k0_off1_inb c))).squeeze S_ squeezes_S1_S_).sem
/-- The `ready` counter that step `r` waits for. -/
abbrev readyOf (c : Dev nD) (r : Fin 7) : Sem sig :=
  ((cc0_scratch11.slice (Rect.unit (s := S8) (k0_off6 c (BitVec.ofNat 32 (1 + r.val))) S1.size (k0_off6_inb c r))).squeeze S_ squeezes_S1_S_).sem
/-- The device's own counter among eight, `recv` side. -/
abbrev recvOwn (c : Dev nD) : DmaSem sig :=
  ((cc0_scratch7.slice (Rect.unit (s := S8) (k0_off1 c) S1.size (k0_off1_inb c))).squeeze S_ squeezes_S1_S_).sem
/-- The `recv` counter that product `j` waits for. -/
abbrev recvOf (c : Dev nD) (j : Fin 7) : DmaSem sig :=
  ((cc0_scratch7.slice (Rect.unit (s := S8) (k0_off12 c (BitVec.ofNat 32 (1 + j.val))) S1.size (k0_off12_inb c j))).squeeze S_ squeezes_S1_S_).sem

/-! ## Steps -/

/-- Tell device `e` that it may send here. -/
def signalReady (c : Dev nD) (e : Dev nD) (k : Body F) : Body F :=
  .op (.semSignal (e, .tc) (readyOwn c) (1#32).toInt) fun _ => k

/-- Start copying x rows into staging slot `t`. -/
def startX (src : Memref sig .tc .hbm S512x512 .f32) (hs : src.view.WordExact) (t : Fin 2) (k : Body F) : Body F :=
  .op (.enqueueDma src (.here (xstage t)) (.dma (xsem t)) hs ((View.wordExact_bits rfl).reshape _ _) ⟨Or.inl rfl, trivial⟩) fun _ => k

/-- Start copying weight rows into staging slot `t`. -/
def startW (src : Memref sig .tc .hbm S512x2048 .f32) (hs : src.view.WordExact) (t : Fin 2) (k : Body F) : Body F :=
  .op (.enqueueDma src (.here (wstage t)) (.dma (wsem t)) hs ((View.wordExact_bits rfl).reshape _ _) ⟨Or.inl rfl, trivial⟩) fun _ => k

/-- Take the staged x rows of step `r`, round them, and store them among the rounded blocks. -/
def roundX (c : Dev nD) (r : Fin 8) (k : Body F) : Body F :=
  .op (.waitDma2 (xsem (par r.val)) (xsrc c r) (xstage (par r.val)) (View.wordExact_bits rfl) ((View.wordExact_bits rfl).reshape _ _)) fun _ =>
  .op (.load (Memref.whole cc0_scratch2) (slotX (par r.val)).toLoadRect (View.loadsAt_vmem h_S1x512x512)) fun v =>
  .op (.load (Memref.whole cc0_scratch0) (Rect.unit (s := S4096x512) (k0_off4 c (BitVec.ofNat 32 (1 + r.val))) S512x512.size (k0_off4_inb c r)).toLoadRect (View.loadsAt_vmem h_S512x512)) fun _ =>
  .op (.store (Memref.whole cc0_scratch0) (Rect.unit (s := S4096x512) (k0_off4 c (BitVec.ofNat 32 (1 + r.val))) S512x512.size (k0_off4_inb c r)) (k0_pay1 v) Finset.univ (View.stores_vmem h_S512x512 ((Memref.isWhole_whole cc0_scratch0).storeExact_slice rfl _ (k0_off4_packedfp8e4m3 c r)) (fun _ => rfl)) (.inl rfl)) fun _ => k

/-- Wait until device `e` may be sent to, and start the copy of its block to it. -/
def sendX (c : Dev nD) (r : Fin 7) (e : Dev nD) (k : Body F) : Body F :=
  .op (.semWait (readyOf c r) (1#32).toInt) fun _ =>
  .op (.enqueueDma (x8src c r.castSucc) (.remote (Dev.tc e) (bufdst c) (.dma (sendSem r.castSucc))) (.dma (recvOwn c)) ((Memref.isWhole_whole cc0_scratch0).wordExact_slice rfl _ (k0_off3_wordsfp8e4m3 c r.castSucc)) (((Memref.isWhole_whole cc0_scratch1).wordExact_slice rfl _ (k0_off7_wordsfp8e4m3 c)).reshape _ _) ⟨⟨rfl, Or.inl rfl⟩, trivial⟩) fun _ => k

/-- Take the staged weight rows in slot `t`, round them, and store them among the rounded blocks. -/
def roundW (src : Memref sig .tc .hbm S512x2048 .f32) (hs : src.view.WordExact) (t : Fin 2) (off : Fin 3 → ℕ) (inb : ∀ a, off a + S1x512x2048.size a ≤ S8x512x2048.size a)
    (hp : (Rect.unit (s := S8x512x2048) off S1x512x2048.size inb).PackedRows (EltTy.packing .fp8e4m3)) (k : Body F) : Body F :=
  .op (.waitDma2 (wsem t) src (wstage t) hs ((View.wordExact_bits rfl).reshape _ _)) fun _ =>
  .op (.load (Memref.whole cc0_scratch3) (slotW t).toLoadRect (View.loadsAt_vmem h_S1x512x2048)) fun v =>
  .op (.load (Memref.whole cc0_scratch4) (Rect.unit (s := S8x512x2048) off S1x512x2048.size inb).toLoadRect (View.loadsAt_vmem h_S1x512x2048)) fun _ =>
  .op (.store (Memref.whole cc0_scratch4) (Rect.unit (s := S8x512x2048) off S1x512x2048.size inb) (k0_pay10 v) Finset.univ (View.stores_vmem h_S1x512x2048 ((Memref.isWhole_whole cc0_scratch4).storeExact_slice rfl _ hp) (fun _ => rfl)) (.inl rfl)) fun _ => k

/-- Read the device's own rounded block and the weights that meet it. -/
def readOwn (c : Dev nD) (k : FVec F S512x2048 .f32 → Body F) : Body F :=
  .op (.load (Memref.whole cc0_scratch0) (Rect.unit (s := S4096x512) (k0_off10 c) S512x512.size (k0_off10_inb c)).toLoadRect (View.loadsAt_vmem h_S512x512)) fun v =>
  .op (.load (Memref.whole cc0_scratch4) (Rect.unit (s := S8x512x2048) (k0_off8 c) S1x512x2048.size (k0_off8_inb c)).toLoadRect (View.loadsAt_vmem h_S1x512x2048)) fun w =>
  k (k0_pay11 v w)

/-- Read the two scales and multiply them. -/
def readScale (sx sw : Memref sig .tc .smem S1 .f32) (k : F .f32 → Body F) : Body F :=
  .op (.load sx (Rect.unit (s := S1) ![0] S1.size inb_S1_S1_0).toLoadRect (View.loadsAt_rect (View.loads_smem_one rfl numel1_S1))) fun u =>
  .op (.load sw (Rect.unit (s := S1) ![0] S1.size inb_S1_S1_0).toLoadRect (View.loadsAt_rect (View.loads_smem_one rfl numel1_S1))) fun v =>
  k (k0_pay12 (u (Shape.Idx.first (numel1_S1.symm ▸ Nat.one_pos))) (v (Shape.Idx.first (numel1_S1.symm ▸ Nat.one_pos))))

/-- Wait for the block from device `c - j - 1`. -/
def recvX (c : Dev nD) (j : Fin 7) (k : Body F) : Body F :=
  .op (.waitDma2 (recvOf c j) (bufsrc c j) (bufsrc c j) (((Memref.isWhole_whole cc0_scratch1).wordExact_slice rfl _ (k0_off13_wordsfp8e4m3 c j)).reshape _ _) (((Memref.isWhole_whole cc0_scratch1).wordExact_slice rfl _ (k0_off13_wordsfp8e4m3 c j)).reshape _ _)) fun _ => k

/-- Read the block from device `c - j - 1`. -/
def readBuf (c : Dev nD) (j : Fin 7) (k : Vec F S1x512x512 .fp8e4m3 → Body F) : Body F :=
  .op (.load (Memref.whole cc0_scratch1) (Rect.unit (s := S8x512x512) (k0_off14 c (BitVec.ofNat 32 (1 + j.val))) S1x512x512.size (k0_off14_inb c j)).toLoadRect (View.loadsAt_vmem h_S1x512x512)) k

/-- Read the block from device `c - j - 1` and the weights that meet it, and add their product to `acc`. -/
def addProduct (c : Dev nD) (j : Fin 7) (acc : FVec F S512x2048 .f32) (k : FVec F S512x2048 .f32 → Body F) : Body F :=
  readBuf c j fun v =>
  .op (.load (Memref.whole cc0_scratch4) (Rect.unit (s := S8x512x2048) (k0_off11 c (BitVec.ofNat 32 (1 + j.val))) S1x512x2048.size (k0_off11_inb c j)).toLoadRect (View.loadsAt_vmem h_S1x512x2048)) fun w =>
  k (k0_pay14 acc v w)

/-- Store half `t` of the result in its staging slot and start the copy out. -/
def putHalf (t : Fin 2) (v : FVec F S1x512x1024 .f32) (k : Body F) : Body F :=
  .op (.load (Memref.whole cc0_scratch5) (slotO t).toLoadRect (View.loadsAt_vmem h_S1x512x1024)) fun _ =>
  .op (.store (Memref.whole cc0_scratch5) (slotO t) v Finset.univ (View.stores_vmem_bits_univ h_S1x512x1024 rfl) (.inl rfl)) fun _ =>
  .op (.enqueueDma (ostage t) (.here (ohalf t)) (.dma (osem t)) ((View.wordExact_bits rfl).reshape _ _) (View.wordExact_bits rfl) ⟨Or.inl rfl, trivial⟩) fun _ => k

/-- Wait for the copy out of half `t` of the result. -/
def waitHalf (t : Fin 2) (k : Body F) : Body F :=
  .op (.waitDma2 (osem t) (ostage t) (ohalf t) ((View.wordExact_bits rfl).reshape _ _) (View.wordExact_bits rfl)) fun _ => k

/-- The last block, in two halves of its columns: add the product, scale, take the maximum with zero, and
    copy each half out. -/
def lastProduct (c : Dev nD) (s : F .f32) (acc : FVec F S512x2048 .f32) (k : Body F) : Body F :=
  readBuf c 6 fun v =>
  .op (.load (Memref.whole cc0_scratch4) (Rect.unit (s := S8x512x2048) (k0_off15 c) S1x512x1024.size (k0_off15_inb c)).toLoadRect (View.loadsAt_vmem h_S1x512x1024)) fun w =>
  putHalf 0 (k0_pay26 s acc v w) <|
  readBuf c 6 fun v =>
  .op (.load (Memref.whole cc0_scratch4) (Rect.unit (s := S8x512x2048) (k0_off16 c) S1x512x1024.size (k0_off16_inb c)).toLoadRect (View.loadsAt_vmem h_S1x512x1024)) fun w =>
  putHalf 1 (k0_pay30 s (k0_pay27 acc) (k0_pay28 v) (k0_pay29 w) (constant S512x1024 .f32 0x00000000#32)) <|
  waitHalf 0 <| waitHalf 1 k

/-- Wait until the copy of step `r` has left. -/
def waitSend (c : Dev nD) (r : Fin 7) (k : Body F) : Body F :=
  .op (.waitDma2 (sendSem r.castSucc) (bufdst c) (x8src c r.castSucc) (((Memref.isWhole_whole cc0_scratch1).wordExact_slice rfl _ (k0_off7_wordsfp8e4m3 c)).reshape _ _) ((Memref.isWhole_whole cc0_scratch0).wordExact_slice rfl _ (k0_off3_wordsfp8e4m3 c r.castSucc))) fun _ => k

/-! ## The stages of the body -/

/-- Step `r` of the first loop, when another x copy is still to be started. -/
def stepX (c : Dev nD) (r : Fin 6) (e : Dev nD) (k : Body F) : Body F :=
  roundX c (r.castLE (by decide)) <| startX (xsrc2 c r) (View.wordExact_bits rfl) (par r.val) <| sendX c (r.castLE (by decide)) e k

/-- Take the weights of product `j`, after starting the copy of those of product `j + 1`. -/
def stepW (c : Dev nD) (j : Fin 7) (k : Body F) : Body F :=
  roundW (wsrc c j) (View.wordExact_bits rfl) (par (j.val + 1)) (k0_off11 c (BitVec.ofNat 32 (1 + j.val))) (k0_off11_inb c j) (k0_off11_packedfp8e4m3 c j) k

/-- Product `j` of the second loop, when another weight copy is still to be started. -/
def stepJ (c : Dev nD) (j : Fin 6) (acc : FVec F S512x2048 .f32) (k : FVec F S512x2048 .f32 → Body F) : Body F :=
  startW (wsrc c ⟨j.val + 1, by omega⟩) (View.wordExact_bits rfl) (par j.val) <| stepW c (j.castLE (by decide)) <|
  recvX c (j.castLE (by decide)) <| addProduct c (j.castLE (by decide)) acc k

/-- Telling the seven others, the barrier, and the first copies. -/
def opening (c : Dev nD) (k : Body F) : Body F :=
  signalReady c ⟨k0_dev1 c, k0_dev1_lt c⟩ <| signalReady c ⟨k0_dev2 c, k0_dev2_lt c⟩ <| signalReady c ⟨k0_dev3 c, k0_dev3_lt c⟩ <|
  signalReady c ⟨k0_dev4 c, k0_dev4_lt c⟩ <| signalReady c ⟨k0_dev5 c, k0_dev5_lt c⟩ <| signalReady c ⟨k0_dev6 c, k0_dev6_lt c⟩ <|
  signalReady c ⟨k0_dev7 c, k0_dev7_lt c⟩ <|
  .op (.semSignal (⟨k0_dev8 c, k0_dev8_lt c⟩, .tc) barrierSem (1#32).toInt) fun _ =>
  .op (.semWait barrierSem (1#32).toInt) fun _ =>
  startW (wsrc0 c) (View.wordExact_bits rfl) 0 <| startX (xsrc c 0) (View.wordExact_bits rfl) 0 <| startX (xsrc c 1) (View.wordExact_bits rfl) 1 k

/-- The first loop: every x block rounded and, but for the device's own, sent. -/
def sending (c : Dev nD) (k : Body F) : Body F :=
  stepX c 0 ⟨k0_dev9 c, k0_dev9_lt c⟩ <| stepX c 1 ⟨k0_dev10 c, k0_dev10_lt c⟩ <| stepX c 2 ⟨k0_dev11 c, k0_dev11_lt c⟩ <|
  stepX c 3 ⟨k0_dev12 c, k0_dev12_lt c⟩ <| stepX c 4 ⟨k0_dev13 c, k0_dev13_lt c⟩ <| stepX c 5 ⟨k0_dev14 c, k0_dev14_lt c⟩ <|
  roundX c 6 <| sendX c 6 ⟨k0_dev15 c, k0_dev15_lt c⟩ <| roundX c 7 k

/-- The product of the device's own block, and the scale. -/
def ownProduct (c : Dev nD) (sx sw : Memref sig .tc .smem S1 .f32) (k : FVec F S512x2048 .f32 → F .f32 → Body F) : Body F :=
  roundW (wsrc0 c) (View.wordExact_bits rfl) 0 (k0_off8 c) (k0_off8_inb c) (k0_off8_packedfp8e4m3 c) <|
  startW (wsrc c 0) (View.wordExact_bits rfl) 1 <| readOwn c fun acc => readScale sx sw fun s => k acc s

/-- The second loop: the products of the blocks received, in order. -/
def products (c : Dev nD) (acc : FVec F S512x2048 .f32) (s : F .f32) (k : Body F) : Body F :=
  stepJ c 0 acc fun acc => stepJ c 1 acc fun acc => stepJ c 2 acc fun acc => stepJ c 3 acc fun acc =>
  stepJ c 4 acc fun acc => stepJ c 5 acc fun acc => stepW c 6 <| recvX c 6 <| lastProduct c s acc k

/-- Waiting until the seven copies have left. -/
def closing (c : Dev nD) (k : Body F) : Body F :=
  waitSend c 0 <| waitSend c 1 <| waitSend c 2 <| waitSend c 3 <| waitSend c 4 <| waitSend c 5 <| waitSend c 6 k

/-- The body on device `c`, its two scales read through `sx` and `sw`. -/
def stages (sx sw : Memref sig .tc .smem S1 .f32) (c : Dev nD) : Body F :=
  opening c <| sending c <| ownProduct c sx sw fun acc s => products c acc s <| closing c <| .ret ⟨⟩

set_option maxRecDepth 65536 in
/-- The body is its stages in order, on the device it asks for first. -/
theorem body_eq_steps (sx : Memref sig .tc .smem S1 .f32) (hsx : sx.IsWhole) (sw : Memref sig .tc .smem S1 .f32) (hsw : sw.IsWhole) :
    cc0_body (F := F) (Memref.whole main_arg0) (Memref.isWhole_whole _) (Memref.whole main_arg1) (Memref.isWhole_whole _) sx hsx sw hsw
      (Memref.whole main_v1) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11
      = .op .deviceId fun c => stages sx sw c := by
  rw [cc0_body_eq_skeleton]
  rfl

end Cert.KernelIdeal.Gemm

end
-- ==== Proof.Places.lean ====
/-
  The eight row blocks and where they lie.

  Device `c`'s neighbour at distance `n` is `dv c n`. Every offset the program computes from a device and a
  step number is the block of such a neighbour; the equations here say which.
-/
module

public import proofs.«01_k».proof.Proof.Base
public import proofs.«01_k».proof.Proof.Steps
public import Idealize.ShloMosaic.Lib.MemrefSat

@[expose] public section

noncomputable section

namespace Cert.KernelIdeal.Gemm

open Cert.KernelIdeal Cert.KernelIdeal.Gen
open Idealize.ShloMosaic
open Idealize.SL.Sem

/-- The device `n` places after `c`, around. -/
def dv (c : Dev nD) (n : ℕ) : Dev nD := ⟨(c.val + n) % 8, Nat.mod_lt _ (by decide)⟩

theorem dv_zero (c : Dev nD) : dv c 0 = c := by revert c; decide
theorem dv_eight (c : Dev nD) : dv c 8 = c := by revert c; decide

/-- Going on `n` places and then back is going nowhere. -/
theorem dv_back (c : Dev nD) (n : Fin 9) : dv (dv c n.val) (8 - n.val) = c := by revert c n; decide

/-- Seven neighbours are other devices. -/
theorem dv_ne (c : Dev nD) (i : Fin 7) : dv c (i.val + 1) ≠ c := by revert c i; decide

/-- Every device is a neighbour at one distance, counting from one, -/
theorem dv_succ_bijective (c : Dev nD) : Function.Bijective fun i : Fin 8 => dv c (i.val + 1) := by revert c; decide
/-- and counting backwards. -/
theorem dv_back_bijective (c : Dev nD) : Function.Bijective fun i : Fin 8 => dv c (8 - i.val) := by revert c; decide

/-! ## Row blocks as places -/

theorem rowsX_inb : ∀ e : Dev nD, ∀ a, (![512 * e.val, 0] : Fin 2 → ℕ) a + S512x512.size a ≤ S4096x512.size a := by decide
theorem rowsW_inb : ∀ e : Dev nD, ∀ a, (![512 * e.val, 0] : Fin 2 → ℕ) a + S512x2048.size a ≤ S4096x2048.size a := by decide
theorem slotB_inb : ∀ e : Dev nD, ∀ a, (![e.val, 0, 0] : Fin 3 → ℕ) a + S1x512x512.size a ≤ S8x512x512.size a := by decide

/-- Block `e` of the x array. -/
abbrev xrows (e : Dev nD) : Memref sig .tc .hbm S512x512 .f32 :=
  (Memref.whole main_arg0).slice (Rect.unit (s := S4096x512) ![512 * e.val, 0] S512x512.size (rowsX_inb e)) (fun _ => rfl)
/-- Block `e` of the weights. -/
abbrev wrows (e : Dev nD) : Memref sig .tc .hbm S512x2048 .f32 :=
  (Memref.whole main_arg1).slice (Rect.unit (s := S4096x2048) ![512 * e.val, 0] S512x2048.size (rowsW_inb e)) (fun _ => rfl)
/-- Block `e` of the rounded x array. -/
abbrev x8rows (e : Dev nD) : Memref sig .tc .vmem S512x512 .fp8e4m3 :=
  (Memref.whole cc0_scratch0).slice (Rect.unit (s := S4096x512) ![512 * e.val, 0] S512x512.size (rowsX_inb e)) (fun _ => rfl)
/-- The place of what device `e` sends, -/
abbrev bufslot (e : Dev nD) : Memref sig .tc .vmem S1x512x512 .fp8e4m3 :=
  (Memref.whole cc0_scratch1).slice (Rect.unit (s := S8x512x512) ![e.val, 0, 0] S1x512x512.size (slotB_inb e)) (fun _ => rfl)
/-- as the copies see it. -/
abbrev bufQ (e : Dev nD) : Memref sig .tc .vmem S512x512 .fp8e4m3 := (bufslot e).squeeze S512x512 squeezes_S1x512x512_S512x512

theorem slot8_inb : ∀ e : Dev nD, ∀ a, (![e.val, 0, 0] : Fin 3 → ℕ) a + S1x512x2048.size a ≤ S8x512x2048.size a := by decide

/-- Block `e` of the rounded weights. -/
abbrev w8slot (e : Dev nD) : Memref sig .tc .vmem S1x512x2048 .fp8e4m3 :=
  (Memref.whole cc0_scratch4).slice (Rect.unit (s := S8x512x2048) ![e.val, 0, 0] S1x512x2048.size (slot8_inb e)) (fun _ => rfl)

/-! ## The program's offsets -/

section
variable (c : Dev nD)

theorem off1_eq : k0_off1 c = ![c.val] := Gen.k0_off1_eq c
theorem off2_eq : k0_off2 c = ![512 * c.val, 0] := Gen.k0_off2_eq c
theorem off3_eq (r : Fin 8) : k0_off3 c (BitVec.ofNat 32 (1 + r.val)) = ![512 * (dv c (r.val + 1)).val, 0] := by revert c r; decide +kernel
theorem off4_eq (r : Fin 8) : k0_off4 c (BitVec.ofNat 32 (1 + r.val)) = ![512 * (dv c (r.val + 1)).val, 0] := by revert c r; decide +kernel
theorem off5_eq (r : Fin 6) : k0_off5 c (BitVec.ofNat 32 (1 + r.val)) = ![512 * (dv c (r.val + 3)).val, 0] := by revert c r; decide +kernel
theorem off6_eq (r : Fin 7) : k0_off6 c (BitVec.ofNat 32 (1 + r.val)) = ![(dv c (r.val + 1)).val] := by revert c r; decide +kernel
theorem off7_eq : k0_off7 c = ![c.val, 0, 0] := Gen.k0_off7_eq c
theorem off9_eq (j : Fin 7) : k0_off9 c (BitVec.ofNat 32 (1 + j.val)) = ![512 * (dv c (7 - j.val)).val, 0] := by revert c j; decide +kernel
theorem off10_eq : k0_off10 c = ![512 * c.val, 0] := Gen.k0_off10_eq c
theorem off12_eq (j : Fin 7) : k0_off12 c (BitVec.ofNat 32 (1 + j.val)) = ![(dv c (7 - j.val)).val] := by revert c j; decide +kernel
theorem off13_eq (j : Fin 7) : k0_off13 c (BitVec.ofNat 32 (1 + j.val)) = ![(dv c (7 - j.val)).val, 0, 0] := by revert c j; decide +kernel
theorem off14_eq (j : Fin 7) : k0_off14 c (BitVec.ofNat 32 (1 + j.val)) = ![(dv c (7 - j.val)).val, 0, 0] := by revert c j; decide +kernel
theorem off15_eq : k0_off15 c = ![(dv c 1).val, 0, 0] := by revert c; decide +kernel
theorem off16_eq : k0_off16 c = ![(dv c 1).val, 0, 1024] := by revert c; decide +kernel
theorem off8_eq : k0_off8 c = ![c.val, 0, 0] := by revert c; decide +kernel
theorem off11_eq (j : Fin 7) : k0_off11 c (BitVec.ofNat 32 (1 + j.val)) = ![(dv c (7 - j.val)).val, 0, 0] := by revert c j; decide +kernel

/-! ## The program's memrefs and counters -/

theorem xsrc_eq (r : Fin 8) : xsrc c r = xrows (dv c (r.val + 1)) := Memref.slice_unit_congr _ (off3_eq c r) _ _ _ _
theorem xsrc2_eq (r : Fin 6) : xsrc2 c r = xrows (dv c (r.val + 3)) := Memref.slice_unit_congr _ (off5_eq c r) _ _ _ _
theorem wsrc0_eq : wsrc0 c = wrows c := Memref.slice_unit_congr _ (off2_eq c) _ _ _ _
theorem wsrc_eq (j : Fin 7) : wsrc c j = wrows (dv c (7 - j.val)) := Memref.slice_unit_congr _ (off9_eq c j) _ _ _ _
theorem x8src_eq (r : Fin 8) : x8src c r = x8rows (dv c (r.val + 1)) := Memref.slice_unit_congr _ (off3_eq c r) _ _ _ _
theorem bufdst_eq : bufdst c = bufQ c :=
  congrArg (fun m : Memref sig .tc .vmem S1x512x512 .fp8e4m3 => m.squeeze S512x512 squeezes_S1x512x512_S512x512) (Memref.slice_unit_congr _ (off7_eq c) _ _ _ _)
theorem bufsrc_eq (j : Fin 7) : bufsrc c j = bufQ (dv c (7 - j.val)) :=
  congrArg (fun m : Memref sig .tc .vmem S1x512x512 .fp8e4m3 => m.squeeze S512x512 squeezes_S1x512x512_S512x512) (Memref.slice_unit_congr _ (off13_eq c j) _ _ _ _)
theorem readyOwn_eq : readyOwn c = readySem c :=
  congrArg (fun a : SemArray (Sem sig) S1 => (a.squeeze S_ squeezes_S1_S_).sem) (SemArray.slice_unit_congr _ (off1_eq c) _ _)
theorem readyOf_eq (r : Fin 7) : readyOf c r = readySem (dv c (r.val + 1)) :=
  congrArg (fun a : SemArray (Sem sig) S1 => (a.squeeze S_ squeezes_S1_S_).sem) (SemArray.slice_unit_congr _ (off6_eq c r) _ _)
theorem recvOwn_eq : recvOwn c = recvSem c :=
  congrArg (fun a : SemArray (DmaSem sig) S1 => (a.squeeze S_ squeezes_S1_S_).sem) (SemArray.slice_unit_congr _ (off1_eq c) _ _)
theorem recvOf_eq (j : Fin 7) : recvOf c j = recvSem (dv c (7 - j.val)) :=
  congrArg (fun a : SemArray (DmaSem sig) S1 => (a.squeeze S_ squeezes_S1_S_).sem) (SemArray.slice_unit_congr _ (off12_eq c j) _ _)

/-! ## The program's devices -/

theorem dev1_eq : (⟨k0_dev1 c, k0_dev1_lt c⟩ : Dev nD) = dv c 1 := by revert c; decide +kernel
theorem dev2_eq : (⟨k0_dev2 c, k0_dev2_lt c⟩ : Dev nD) = dv c 2 := by revert c; decide +kernel
theorem dev3_eq : (⟨k0_dev3 c, k0_dev3_lt c⟩ : Dev nD) = dv c 3 := by revert c; decide +kernel
theorem dev4_eq : (⟨k0_dev4 c, k0_dev4_lt c⟩ : Dev nD) = dv c 4 := by revert c; decide +kernel
theorem dev5_eq : (⟨k0_dev5 c, k0_dev5_lt c⟩ : Dev nD) = dv c 5 := by revert c; decide +kernel
theorem dev6_eq : (⟨k0_dev6 c, k0_dev6_lt c⟩ : Dev nD) = dv c 6 := by revert c; decide +kernel
theorem dev7_eq : (⟨k0_dev7 c, k0_dev7_lt c⟩ : Dev nD) = dv c 7 := by revert c; decide +kernel
theorem dev8_eq : (⟨k0_dev8 c, k0_dev8_lt c⟩ : Dev nD) = c := Fin.ext (Gen.k0_dev8_eq c)
theorem dev9_eq : (⟨k0_dev9 c, k0_dev9_lt c⟩ : Dev nD) = dv c 1 := by revert c; decide +kernel
theorem dev10_eq : (⟨k0_dev10 c, k0_dev10_lt c⟩ : Dev nD) = dv c 2 := by revert c; decide +kernel
theorem dev11_eq : (⟨k0_dev11 c, k0_dev11_lt c⟩ : Dev nD) = dv c 3 := by revert c; decide +kernel
theorem dev12_eq : (⟨k0_dev12 c, k0_dev12_lt c⟩ : Dev nD) = dv c 4 := by revert c; decide +kernel
theorem dev13_eq : (⟨k0_dev13 c, k0_dev13_lt c⟩ : Dev nD) = dv c 5 := by revert c; decide +kernel
theorem dev14_eq : (⟨k0_dev14 c, k0_dev14_lt c⟩ : Dev nD) = dv c 6 := by revert c; decide +kernel
theorem dev15_eq : (⟨k0_dev15 c, k0_dev15_lt c⟩ : Dev nD) = dv c 7 := by revert c; decide +kernel
end

/-! ## A shape cut into blocks along one axis -/

section Blocks
variable {s : Shape} {n : ℕ} (a₀ : Fin s.rank) {size : Fin s.rank → ℕ} {off : Fin n → Fin s.rank → ℕ} (inb : ∀ i a, off i a + size a ≤ s.size a) (σ : Fin n → ℕ)

/-- Blocks that start at different multiples of their thickness are disjoint. -/
theorem blocks_disjoint (hσ : Function.Injective σ) (h₀ : ∀ i, off i a₀ = size a₀ * σ i) (i j : Fin n) (hij : i ≠ j) :
    Disjoint (Rect.unit (s := s) (off i) size (inb i)).set (Rect.unit (s := s) (off j) size (inb j)).set := by
  rw [Finset.disjoint_left]
  intro x hx hy
  have hx := Rect.mem_set_unit.mp hx a₀
  have hy := Rect.mem_set_unit.mp hy a₀
  rw [h₀] at hx hy
  have key : ∀ p q k v : ℕ, k * p ≤ v → v < k * q + k → p ≤ q := fun p q k v h1 h2 => by
    by_contra hc
    have := Nat.mul_le_mul_left k (Nat.lt_of_not_le hc)
    rw [Nat.mul_succ] at this
    omega
  exact hij (hσ (Nat.le_antisymm (key _ _ _ _ hx.1 hy.2) (key _ _ _ _ hy.1 hx.2)))

/-- Blocks that start at every multiple of their thickness, and are whole along the other axes, cover. -/
theorem blocks_cover (hσ : ∀ v < n, ∃ i, σ i = v) (h₀ : ∀ i, off i a₀ = size a₀ * σ i) (hn : s.size a₀ = size a₀ * n) (hpos : 0 < size a₀)
    (hrest : ∀ i a, a ≠ a₀ → off i a = 0 ∧ size a = s.size a) :
    (Finset.univ : Finset (Fin n)).biUnion (fun i => (Rect.unit (s := s) (off i) size (inb i)).set) = Finset.univ := by
  refine Finset.eq_univ_of_forall fun x => ?_
  have hx := (x a₀).isLt
  obtain ⟨i, hi⟩ := hσ ((x a₀ : ℕ) / size a₀) (Nat.div_lt_of_lt_mul (hn ▸ hx))
  refine Finset.mem_biUnion.mpr ⟨i, Finset.mem_univ i, Rect.mem_set_unit.mpr fun a => ?_⟩
  by_cases h : a = a₀
  · subst h; rw [h₀, hi]
    exact ⟨Nat.mul_div_le _ _, by rw [← Nat.mul_succ]; exact Nat.lt_mul_div_succ _ hpos⟩
  · obtain ⟨h1, h2⟩ := hrest i a h
    rw [h1, h2]; exact ⟨Nat.zero_le _, by rw [Nat.zero_add]; exact (x a).isLt⟩

end Blocks

/-! ## Splitting a memref into its blocks and back -/

section Split
variable {F : FTy → Type} {c : Dev nD} {sp : Space} {s : Shape} {e : EltTy} (m : Memref sig .tc sp s e) (a₀ : Fin s.rank) {n : ℕ} {size : Fin s.rank → ℕ}
  {off : Fin n → Fin s.rank → ℕ} (inb : ∀ i a, off i a + size a ≤ s.size a) (σ : Fin n → ℕ)
  (hinj : Function.Injective σ) (hσ : ∀ v < n, ∃ i, σ i = v) (h₀ : ∀ i, off i a₀ = size a₀ * σ i) (hn : s.size a₀ = size a₀ * n) (hpos : 0 < size a₀)
  (hrest : ∀ i a, a ≠ a₀ → off i a = 0 ∧ size a = s.size a)
include hinj hσ h₀ hn hpos hrest

open Idealize.SL Idealize.SL.RA Idealize.SL.BI
open scoped Idealize.SL.BI
open Idealize.SL.BI.BIBase Idealize.SL.BI.Laws Idealize.SL.ProofMode

local notation "𝕄" => MT nD τ sig Unit (Elt F) ℕ UU ℕ

/-- A memref owned is its blocks owned. -/
theorem own_blocks (X : s.Idx → Elt F e) :
    own c m X ⊢ bigSep Finset.univ fun i : Fin n => own c (m.slice (Rect.unit (off i) size (inb i)) fun _ => rfl) (fun x => X ((Rect.unit (s := s) (off i) size (inb i)).emb x)) :=
  owns_rects (c.tc : Thread nD τ) m fullShare (fun i => Rect.unit (off i) size (inb i)) (fun _ _ => rfl) (blocks_disjoint a₀ inb σ hinj h₀)
    (blocks_cover a₀ inb σ hσ h₀ hn hpos hrest) X

/-- and back. -/
theorem own_of_blocks [∀ e, Nonempty (Elt F e)] (X : s.Idx → Elt F e) :
    (bigSep Finset.univ fun i : Fin n => own c (m.slice (Rect.unit (off i) size (inb i)) fun _ => rfl) (fun x => X ((Rect.unit (s := s) (off i) size (inb i)).emb x)))
      ⊢ own c m X :=
  owns_of_rects (c.tc : Thread nD τ) m fullShare (fun i => Rect.unit (off i) size (inb i)) (fun _ _ => rfl) (blocks_disjoint a₀ inb σ hinj h₀)
    (blocks_cover a₀ inb σ hσ h₀ hn hpos hrest) X

/-- A memref owned at unknown contents is its blocks at unknown contents. -/
theorem some_blocks :
    some' (F := F) c m ⊢ bigSep Finset.univ fun i : Fin n => some' (F := F) c (m.slice (Rect.unit (off i) size (inb i)) fun _ => rfl) := by
  iintro ⟨%X, H⟩
  iapply (show own c m X ⊢ bigSep Finset.univ fun i : Fin n => some' (F := F) c (m.slice (Rect.unit (off i) size (inb i)) fun _ => rfl) from
    (own_blocks m a₀ inb σ hinj hσ h₀ hn hpos hrest X).trans (bigSep_mono fun i _ => own_some _ _)) $$ H

/-- and back. -/
theorem some_of_blocks [∀ e, Nonempty (Elt F e)] :
    (bigSep Finset.univ fun i : Fin n => some' (F := F) c (m.slice (Rect.unit (off i) size (inb i)) fun _ => rfl)) ⊢ some' (F := F) c m :=
  (bigSep_mono fun i _ => (ownsSat_true (c.tc : Thread nD τ) (m.slice (Rect.unit (off i) size (inb i)) fun _ => rfl) fullShare).2).trans
    ((ownsSat_of_rects (c.tc : Thread nD τ) m fullShare (Ψ := fun _ _ => True) (fun i => Rect.unit (off i) size (inb i)) (fun _ _ => rfl)
      (blocks_disjoint a₀ inb σ hinj h₀) (blocks_cover a₀ inb σ hσ h₀ hn hpos hrest)).trans (ownsSat_any (c.tc : Thread nD τ) m fullShare))

end Split

end Cert.KernelIdeal.Gemm

end
-- ==== Proof.Values.lean ====
/-
  What each array holds on each device, from the memory at the start.

  Device `c` cuts its own columns of x into eight row blocks `xblk m c e` and its weights into eight row blocks
  `wblk m c e`, rounds both, and sends block `e` to device `e`. It multiplies the rounded blocks it receives by
  its rounded weight blocks and adds, starting with its own and going backwards around the devices.
-/
module

public import proofs.«01_k».proof.Proof.Places

@[expose] public section

noncomputable section

namespace Cert.KernelIdeal.Gemm

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-- Row block `e` of the x array of device `c`. -/
def xblk (c e : Dev nD) : FVec F S512x512 .f32 := (xrows e).view.read (Elt F) (m ((c : Thread nD τ).loc main_arg0))

/-- Row block `e` of the weights of device `c`. -/
def wblk (c e : Dev nD) : FVec F S512x2048 .f32 := (wrows e).view.read (Elt F) (m ((c : Thread nD τ).loc main_arg1))

/-- The block rounded, as device `c` sends it to device `e`. -/
def x8v (c e : Dev nD) : FVec F S512x512 .fp8e4m3 := k0_pay1 (shapeCast S1x512x512 (xblk m c e))

/-- What device `c` has received from device `s`, as it lies in the landing buffer. -/
def bufv (c s : Dev nD) : FVec F S1x512x512 .fp8e4m3 := shapeCast S1x512x512 (x8v m s c)

/-- The weight block rounded. -/
def w8v (c e : Dev nD) : FVec F S1x512x2048 .fp8e4m3 := k0_pay10 (shapeCast S1x512x2048 (wblk m c e))

/-- The first scale on device `c`, as staged. -/
def sxv (c : Dev nD) : (cc0_stg0_0 : Ref sig .tc).ty.Contents (Elt F) := (win0_0.blk (0 : Fin 1)).view.read (Elt F) (m ((c : Thread nD τ).loc main_arg2))
/-- The second scale on device `c`, as staged. -/
def swv (c : Dev nD) : (cc0_stg1_0 : Ref sig .tc).ty.Contents (Elt F) := (win0_1.blk (0 : Fin 1)).view.read (Elt F) (m ((c : Thread nD τ).loc main_arg3))

/-- The one index of a shape of one element. -/
abbrev one : S1.Idx := Shape.Idx.first (numel1_S1.symm ▸ Nat.one_pos)

/-- The product of the two scales. -/
def scalev (c : Dev nD) : F .f32 := k0_pay12 (sxv m c one) (swv m c one)

/-- The sum on device `c` after its own product and `j` more. -/
def accv (c : Dev nD) : ℕ → FVec F S512x2048 .f32
  | 0 => k0_pay11 (x8v m c c) (w8v m c c)
  | j + 1 => k0_pay14 (accv c j) (bufv m c (dv c (7 - j))) (w8v m c (dv c (7 - j)))

theorem half_inb : ∀ t : Fin 2, ∀ a, (![0, 0, 1024 * t.val] : Fin 3 → ℕ) a + S1x512x1024.size a ≤ S1x512x2048.size a := by decide

/-- Half `t` of the columns of a rounded weight block. -/
def w8half (c e : Dev nD) (t : Fin 2) : FVec F S1x512x1024 .fp8e4m3 :=
  fun i => w8v m c e ((Rect.unit (s := S1x512x2048) ![0, 0, 1024 * t.val] S1x512x1024.size (half_inb t)).emb i)

/-- Half `t` of the result of device `c`, as it is staged. -/
def outv (c : Dev nD) : Fin 2 → FVec F S1x512x1024 .f32
  | 0 => k0_pay26 (scalev m c) (accv m c 6) (bufv m c (dv c 1)) (w8half m c (dv c 1) 0)
  | 1 => k0_pay30 (scalev m c) (k0_pay27 (accv m c 6)) (k0_pay28 (bufv m c (dv c 1))) (k0_pay29 (w8half m c (dv c 1) 1)) (constant S512x1024 .f32 0x00000000#32)

/-- Half `t` of the result of device `c`, as it is copied out. -/
def outq (c : Dev nD) (t : Fin 2) : FVec F S512x1024 .f32 := shapeCast S512x1024 (outv m c t)

theorem cols_rest : ∀ (i : Fin 2) a, a ≠ (1 : Fin 2) → (![0, 1024 * i.val] : Fin 2 → ℕ) a = 0 ∧ S512x1024.size a = S512x2048.size a := by decide
theorem cols_disjoint (t t' : Fin 2) (h : t ≠ t') : Disjoint (colsO t).set (colsO t').set :=
  blocks_disjoint (s := S512x2048) (1 : Fin 2) (size := S512x1024.size) (off := fun t : Fin 2 => ![0, 1024 * t.val]) cols_inb (fun t => t.val) Fin.val_injective (fun _ => rfl) t t' h
theorem cols_cover : (Finset.univ : Finset (Fin 2)).biUnion (fun t => (colsO t).set) = Finset.univ :=
  blocks_cover (s := S512x2048) (1 : Fin 2) (size := S512x1024.size) (off := fun t : Fin 2 => ![0, 1024 * t.val]) cols_inb (fun t => t.val) (fun v hv => ⟨⟨v, hv⟩, rfl⟩) (fun _ => rfl) rfl (by decide) cols_rest

/-- The result of device `c`: the two halves side by side. -/
def resv (c : Dev nD) : FVec F S512x2048 .f32 := Rect.glue (fun t : Fin 2 => colsO t) cols_cover (outq m c)

theorem resv_half (c : Dev nD) (t : Fin 2) : (fun x => resv m c ((colsO t).emb x)) = outq m c t := by
  funext x
  exact Rect.glue_emb _ cols_cover cols_disjoint _ t x

end Cert.KernelIdeal.Gemm

end
-- ==== Proof.Protocol.lean ====
/-
  How the devices talk.

  Each device has three rows of eight counters. On `ready` counter `s` device `s` says, once, that it may be
  sent to, and hands over its landing place for this device. On `recv` counter `s` the copy of device `s`
  arrives, once, with the block it brings. On `send` counter `i` the device's own `i`-th copy leaves, once, and
  gives the block it was reading back. The counters of a device to itself, and the last of `send`, are not used.
-/
module

public import proofs.«01_k».proof.Proof.Values

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The counters -/

/-- A device, a row and a place in it: row 0 is `ready`, row 1 `recv`, row 2 `send`. -/
abbrev Cell : Type := Dev nD × Fin 3 × Fin 8

/-- The counter at a row and a place. -/
def ksem (p : Fin 3 × Fin 8) : SemLoc sig := if p.1 = 0 then .reg (readySem p.2) else if p.1 = 1 then .dma (recvSem p.2) else .dma (sendSem p.2)
/-- The counter of a device. -/
def kcell (x : Cell) : GSem nD τ sig := ((x.1 : Thread nD τ), ksem x.2)

theorem ksem_injective : Function.Injective ksem := by unfold Function.Injective; decide
theorem kcell_injective : Function.Injective kcell := by
  rintro ⟨c, p⟩ ⟨c', p'⟩ h
  have h1 : c = c' := congrArg (fun g : GSem nD τ sig => g.1.1) h
  have h2 : ksem p = ksem p' := congrArg (fun g : GSem nD τ sig => g.2) h
  rw [h1, ksem_injective h2]

/-- The counter of a device, as an embedding. -/
def kemb : Cell ↪ GSem nD τ sig := ⟨kcell, kcell_injective⟩

/-- The place of a counter, if it has one. -/
def dec (g : GSem nD τ sig) : Option Cell := preimage? kemb g
theorem dec_kcell (x : Cell) : dec (kcell x) = some x := preimage?_emb kemb x
theorem dec_none (c : Dev nD) (sm : SemLoc sig) (h : ∀ p, ksem p ≠ sm) : dec ((c : Thread nD τ), sm) = none :=
  preimage?_eq_none fun x hx => h x.2 (congrArg (fun g : GSem nD τ sig => g.2) hx)

/-- Whether a counter is used. -/
abbrev used (x : Cell) : Prop := if x.2.1 = 2 then x.2.2 ≠ 7 else x.2.2 ≠ x.1

/-! ## What passes -/

/-- What a copy of one block adds to its counters. -/
def N : ℕ := (bufQ (0 : Dev nD)).view.dmaCredit
theorem N_pos : 0 < N := by unfold N; decide +kernel

/-- What a counter's one event brings. -/
def pay (m : (ℓ : Loc nD τ sig) → Buf (Elt F) ℓ) (x : Cell) : sProp 𝕄 :=
  if x.2.1 = 0 then some' x.2.2 (bufQ x.1)
  else if x.2.1 = 1 then own x.1 (bufQ x.2.2) (x8v m x.2.2 x.1)
  else own x.1 (x8rows (dv x.1 (x.2.2.val + 1))) (x8v m x.1 (dv x.1 (x.2.2.val + 1)))

/-- What a counter's one event adds to it. -/
def amt (x : Cell) : ℕ := if x.2.1 = 0 then 1 else N
theorem amt_pos (x : Cell) : 0 < amt x := by unfold amt; split; exacts [Nat.one_pos, N_pos]

omit [FloatOps F] in
theorem own_storable (c : Dev nD) {sp : Space} {s : Shape} {e : EltTy} (m : Memref sig .tc sp s e) (X : s.Idx → Elt F e) : BI.Storable (upEmb : UEmb _ 𝕄) (own c m X) := by
  unfold own owns; infer_instance
omit [FloatOps F] in
theorem some_storable (c : Dev nD) {sp : Space} {s : Shape} {e : EltTy} (m : Memref sig .tc sp s e) : BI.Storable (upEmb : UEmb _ 𝕄) (some' (F := F) c m) := by
  unfold some' own owns; infer_instance
instance pay_storable (m : (ℓ : Loc nD τ sig) → Buf (Elt F) ℓ) (x : Cell) : BI.Storable (upEmb : UEmb _ 𝕄) (pay m x) := by
  unfold pay
  split
  · exact some_storable _ _
  split
  · exact own_storable _ _ _
  · exact own_storable _ _ _

variable (m : (ℓ : Loc nD τ sig) → Buf (Elt F) ℓ)

/-- The schedule: every used counter has one event. -/
def rd : Rounds.Schedule (GSem nD τ sig) Unit 𝕄 where
  duties g r := match dec g with
    | some x => if r = 0 ∧ used x then {()} else ∅
    | none => ∅
  unitless _ := False
  amount g _ _ := match dec g with
    | some x => amt x
    | none => 1
  payload g _ _ := match dec g with
    | some x => pay m x
    | none => iprop(emp)
  amount_pos g _ _ _ := by
    cases dec g with
    | none => exact Nat.one_pos
    | some x => exact amt_pos x

instance rd_payload_storable (g : GSem nD τ sig) (r : ℕ) (d : Unit) : BI.Storable (upEmb : UEmb _ 𝕄) ((rd m).payload g r d) := by
  show BI.Storable upEmb (match dec g with | some x => pay m x | none => iprop(emp))
  cases dec g <;> infer_instance

section
variable (x : Cell)

theorem duties_used (h : used x) : (rd m).duties (kcell x) 0 = {()} := by
  show (match dec (kcell x) with | some x => if 0 = 0 ∧ used x then {()} else ∅ | none => ∅) = _
  rw [dec_kcell]; exact if_pos ⟨rfl, h⟩
theorem duties_unused (h : ¬ used x) (r : ℕ) : (rd m).duties (kcell x) r = ∅ := by
  show (match dec (kcell x) with | some x => if r = 0 ∧ used x then {()} else ∅ | none => ∅) = _
  rw [dec_kcell]; exact if_neg fun h' => h h'.2
theorem duties_later (r : ℕ) (hr : 1 ≤ r) : (rd m).duties (kcell x) r = ∅ := by
  show (match dec (kcell x) with | some x => if r = 0 ∧ used x then {()} else ∅ | none => ∅) = _
  rw [dec_kcell]; exact if_neg fun h' => by omega
theorem amount_eq (u : Unit) : (rd m).amount (kcell x) 0 u = amt x := by
  show (match dec (kcell x) with | some x => amt x | none => 1) = _
  rw [dec_kcell]
theorem payload_eq (u : Unit) : (rd m).payload (kcell x) 0 u = pay m x := by
  show (match dec (kcell x) with | some x => pay m x | none => iprop(emp)) = _
  rw [dec_kcell]
theorem expect_eq (h : used x) : (rd m).expect (kcell x) 0 = amt x := by
  unfold Schedule.expect Schedule.amountOf; rw [duties_used m x h, Finset.sum_singleton, amount_eq]
theorem rest_eq (h : used x) : bigSep ((rd m).duties (kcell x) 0 \ ∅) (fun u => (rd m).payload (kcell x) 0 u) = pay m x := by
  rw [Finset.sdiff_empty, duties_used m x h, bigSep_singleton, payload_eq]
end

/-! ## What a device owes, and the levels -/

/-- The copies that device `c` has still to make, from the `r`-th on. -/
def OR (c : Dev nD) (r : ℕ) : CellTallies nD τ sig Unit := ∑ i ∈ Finset.Ico r 7, tallyAt (kcell (dv c (i + 1), 1, c)) () N
/-- The signals that device `c` has still to give, from the `r`-th on. -/
def OS (c : Dev nD) (r : ℕ) : CellTallies nD τ sig Unit := ∑ i ∈ Finset.Ico r 7, tallyAt (kcell (dv c (i + 1), 0, c)) () 1
/-- What device `c` owes at the start. -/
def O₀ (c : Dev nD) : CellTallies nD τ sig Unit := OR c 0 + OS c 0

theorem Ico_first (r : Fin 7) : Finset.Ico r.val 7 = insert r.val (Finset.Ico (r.val + 1) 7) := by
  ext i; simp only [Finset.mem_insert, Finset.mem_Ico]; omega

theorem OR_step (c : Dev nD) (r : Fin 7) : OR c r.val = OR c (r.val + 1) + tallyAt (kcell (dv c (r.val + 1), 1, c)) () N := by
  unfold OR; rw [Ico_first r, Finset.sum_insert (by simp), add_comm]
theorem OS_step (c : Dev nD) (r : Fin 7) : OS c r.val = OS c (r.val + 1) + tallyAt (kcell (dv c (r.val + 1), 0, c)) () 1 := by
  unfold OS; rw [Ico_first r, Finset.sum_insert (by simp), add_comm]
theorem OR_end (c : Dev nD) : OR c 7 = 0 := by unfold OR; rw [Finset.Ico_self, Finset.sum_empty]
theorem OS_end (c : Dev nD) : OS c 7 = 0 := by unfold OS; rw [Finset.Ico_self, Finset.sum_empty]

theorem sum_tally_pos {s : Finset ℕ} {cell : ℕ → GSem nD τ sig} {k : ℕ} {g : GSem nD τ sig} {u : Unit} (h : 0 < (∑ i ∈ s, tallyAt (cell i) () k) g u) : ∃ i, g = cell i := by
  rw [Finset.sum_apply, Finsupp.finset_sum_apply] at h
  obtain ⟨i, -, hi⟩ := Finset.exists_ne_zero_of_sum_ne_zero h.ne'
  refine ⟨i, ?_⟩
  by_contra hn
  rw [tallyAt_apply, if_neg fun h' => hn h'.1] at hi
  exact hi rfl

theorem OR_pos {c : Dev nD} {r : ℕ} {g : GSem nD τ sig} {u : Unit} (h : 0 < OR c r g u) : ∃ i, g = kcell (dv c (i + 1), 1, c) := sum_tally_pos h
theorem O₀_pos {c : Dev nD} {g : GSem nD τ sig} {u : Unit} (h : 0 < O₀ c g u) : ∃ x : Cell, g = kcell x ∧ x.2.1 ≠ 2 := by
  unfold O₀ at h
  rw [Pi.add_apply, Finsupp.add_apply] at h
  rcases Nat.eq_zero_or_pos (OR c 0 g u) with h0 | h0
  · rw [h0, Nat.zero_add] at h
    obtain ⟨i, hi⟩ := sum_tally_pos (cell := fun i => kcell (dv c (i + 1), 0, c)) h
    exact ⟨_, hi, fun h => by simp at h⟩
  · obtain ⟨i, hi⟩ := OR_pos h0
    exact ⟨_, hi, fun h => by simp at h⟩

/-- Every counter of a device's core has its one level. -/
def L (g : GSem nD τ sig) : Finset Unit := if g.1.2 = .tc then {()} else ∅
/-- `recv` is above `ready`, and both are above everything else. -/
def lv (g : GSem nD τ sig) (_ : Unit) : ℕ := match dec g with
  | some x => if x.2.1 = 0 then 1 else if x.2.1 = 1 then 2 else 0
  | none => 0
theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Cell) (u : Unit) : lv (kcell x) u = if x.2.1 = 0 then 1 else if x.2.1 = 1 then 2 else 0 := by unfold lv; rw [dec_kcell]
theorem lv_other (c : Dev nD) (sm : SemLoc sig) (h : ∀ p, ksem p ≠ sm) (u : Unit) : lv ((c : Thread nD τ), sm) u = 0 := by unfold lv; rw [dec_none c sm h]

theorem mayWait_of (c : Dev nD) (sm : SemLoc sig) (O : CellTallies nD τ sig Unit) (b : ℕ) (h : lv ((c : Thread nD τ), sm) () ≤ b)
    (hO : ∀ g u, 0 < O g u → ∃ x : Cell, g = kcell x ∧ b < lv (kcell x) ()) : (levAts L lv : sProp 𝕄) ⊢ MayWait (c : Thread nD τ) sm () O := by
  refine MayOwe.of_cut (L := L) (lev := lv) b (fun p hp => by rw [Finset.mem_singleton.mp hp, L_tc]; exact Finset.mem_singleton_self _)
    (fun g u hg => ?_) (fun p hp => by rw [Finset.mem_singleton.mp hp]; exact h) (fun g u hg => ?_)
  · obtain ⟨x, rfl, -⟩ := hO g u hg; exact Finset.mem_singleton_self _
  · obtain ⟨x, rfl, hx⟩ := hO g u hg; exact hx

/-- A counter outside the rows may be waited for while copies are owed. -/
theorem mayWait_local (c : Dev nD) (sm : SemLoc sig) (h : ∀ p, ksem p ≠ sm) (r : ℕ) : (levAts L lv : sProp 𝕄) ⊢ MayWait (c : Thread nD τ) sm () (OR c r) :=
  mayWait_of c sm _ 0 (by rw [lv_other c sm h]) fun g u hg => by
    obtain ⟨i, hi⟩ := OR_pos hg
    exact ⟨_, hi, by rw [lv_kcell]; exact (by decide : 0 < 2)⟩

/-- A `ready` counter may be waited for while copies are owed. -/
theorem mayWait_ready (c : Dev nD) (s : Fin 8) (r : ℕ) : (levAts L lv : sProp 𝕄) ⊢ MayWait (c : Thread nD τ) (.reg (readySem s)) () (OR c r) :=
  mayWait_of c _ _ 1 (by show lv (kcell (c, 0, s)) () ≤ 1; rw [lv_kcell]; exact le_refl 1) fun g u hg => by
    obtain ⟨i, hi⟩ := OR_pos hg
    exact ⟨_, hi, by rw [lv_kcell]; exact (by decide : 1 < 2)⟩

/-- A counter outside the rows may be waited for at the start and at the end. -/
theorem mayWait_stage (c : Dev nD) (sm : SemLoc sig) (h : ∀ p, ksem p ≠ sm) (O : CellTallies nD τ sig Unit) (hO : O = O₀ c ∨ O = 0) :
    (levAts L lv : sProp 𝕄) ⊢ MayWait (c : Thread nD τ) sm () O := by
  rcases hO with rfl | rfl
  · refine mayWait_of c sm _ 0 (by rw [lv_other c sm h]) fun g u hg => ?_
    obtain ⟨x, rfl, hx⟩ := O₀_pos hg
    refine ⟨x, rfl, ?_⟩
    rw [lv_kcell]
    obtain ⟨c, k, i⟩ := x
    have key : ∀ k : Fin 3, k ≠ 2 → 0 < if k = 0 then 1 else if k = 1 then 2 else 0 := by decide
    exact key k hx
  · rw [MayWait_zero]; iintro -; iempintro

/-! ## What every device knows -/

/-- Every counter runs by the schedule, has reached its start, and has its level. -/
def ctx (K : Cell → ℕ) : sProp 𝕄 :=
  iprop((bigSep Finset.univ fun x => cellInv ER (rd m) (K x) (kcell x)) ∗ (bigSep Finset.univ fun x => reached ER (kcell x) 0) ∗ levAts L lv)

instance ctx_persistent (K : Cell → ℕ) : BI.Persistent (ctx m K) := by unfold ctx; infer_instance

theorem ctx_inv (K : Cell → ℕ) (x : Cell) : ctx m K ⊢ cellInv ER (rd m) (K x) (kcell x) := by
  have h : (bigSep Finset.univ fun x => cellInv ER (rd m) (K x) (kcell x)) ⊢ cellInv ER (rd m) (K x) (kcell x) := bigSep_elim (Finset.mem_univ x)
  unfold ctx
  iintro ⟨H, -, -⟩
  iapply h $$ H
theorem ctx_reached (K : Cell → ℕ) (x : Cell) : ctx m K ⊢ reached ER (kcell x) 0 := by
  have h : (bigSep Finset.univ fun x => (reached ER (kcell x) 0 : sProp 𝕄)) ⊢ (reached ER (kcell x) 0 : sProp 𝕄) := bigSep_elim (Finset.mem_univ x)
  unfold ctx
  iintro ⟨-, H, -⟩
  iapply h $$ H
theorem ctx_lev (K : Cell → ℕ) : ctx m K ⊢ levAts L lv := by
  unfold ctx
  iintro ⟨-, -, H⟩
  iexact H

end Cert.KernelIdeal.Gemm

end
-- ==== Proof.Cells.lean ====
/-
  The four steps of the body that use the counters between devices: telling that one may be sent to, sending,
  waiting for a block, and waiting until a copy has left. Each lemma says what the step takes and what it gives.
-/
module

public import proofs.«01_k».proof.Proof.Protocol

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Cell → ℕ)
variable {c : Dev nD} {Q : PUnit.{1} → sProp (MT nD τ sig Unit (Elt F) ℕ UU ℕ)} {k : Body F}

theorem credit_eq (e : Dev nD) : (bufQ e).view.dmaCredit = N := rfl

theorem credit_x8 {e : Dev nD} : (x8rows e).view.dmaCredit = N := rfl

theorem pay_ready (c : Dev nD) (s : Fin 8) : pay m (c, 0, s) = some' s (bufQ c) := if_pos rfl
theorem pay_recv (c : Dev nD) (s : Fin 8) : pay m (c, 1, s) = own c (bufQ s) (x8v m s c) := (if_neg (by decide +revert)).trans (if_pos rfl)
theorem pay_send (c : Dev nD) (r : Fin 7) : pay m (c, 2, r.castSucc) = own c (x8rows (dv c (r.val + 1))) (x8v m c (dv c (r.val + 1))) :=
  (if_neg (by decide +revert)).trans (if_neg (by decide +revert))

/-- Waiting for the one event of a used counter of the device gives what it brings. -/
theorem wp_event (x : Cell) (hx : used x) (hc : x.1 = c) {sm : SemLoc sig} (hsm : sm = ksem x.2) {n : ℕ} (hn : n = amt x)
    {w : TpuEff nD τ sig (Elt F) Λ₀ (c : Thread nD τ).2 PUnit} (hw : ∀ K : PUnit → sProp 𝕄, wpE (defs₀ (F := F)) 𝒱₀ (c : Thread nD τ) none Set.univ w K = waitSpec (c : Thread nD τ) Set.univ sm n K)
    {O : CellTallies nD τ sig Unit} :
    iprop(ctx m K ∗ cred (tallyAt (kcell x) () (amt x)) ∗ ow c O ∗ MayWait (c : Thread nD τ) sm () O ∗ atPos ER (kcell x) 0 ∅ 0)
      ⊢ iprop((iprop(ow c O ∗ atPos ER (kcell x) (0 + 1) ∅ 0 ∗ pay m x) -∗ run c k Q) -∗ run c (.op w fun _ => k) Q) := by
  have hcell : kcell x = ((c : Thread nD τ), sm) := by rw [hsm, ← hc]; rfl
  have hrest := rest_eq m x hx
  have hexp := expect_eq m x hx
  rw [← hn, hcell] at hexp
  rw [hcell] at hrest ⊢
  rw [← hn]
  iintro ⟨#HC, Hcr, ⟨%W, HO⟩, HM, Hat⟩ Hk
  iapply (Rounds.wp_wait_rest_token 𝒱₀ ER (rd m) (c : Thread nD τ) none (κ := K x) hw (Set.mem_univ _) () (O := O) (W := W) (R := 0) (m := 0) (T := ∅)
      (by rw [Nat.zero_add, hexp])) $$ [Hcr HO HM Hat]
  · isplitr; · rw [← hcell]; iapply (ctx_inv m K x) $$ HC
    isplitl [Hcr]; · iexact Hcr
    isplitl [HO]; · iexact HO
    isplitl [HM]; · iexact HM
    iexact Hat
  iintro ⟨HO, Hat, -, Hp⟩
  ihave Hp := (Entails.of_eq hrest) $$ Hp
  iapply Hk
  isplitl [HO]; · iexists _; iexact HO
  isplitl [Hat]; · iexact Hat
  iexact Hp

theorem used_ready (c : Dev nD) (r : Fin 7) : used (c, 0, dv c (r.val + 1)) := by revert c r; decide
theorem used_ready' (c : Dev nD) (r : Fin 7) : used (dv c (r.val + 1), 0, c) := by revert c r; decide
theorem used_recv' (c : Dev nD) (r : Fin 7) : used (dv c (r.val + 1), 1, c) := by revert c r; decide
theorem used_recv (c : Dev nD) (j : Fin 7) : used (c, 1, dv c (7 - j.val)) := by revert c j; decide
theorem used_send (c : Dev nD) (r : Fin 7) : used (c, 2, r.castSucc) := by revert c r; decide

/-- Telling device `e`, the `i`-th after `c`, that it may send here. -/
theorem wp_signalReady (i : Fin 7) (e : Dev nD) (he : e = dv c (i.val + 1)) :
    iprop(ctx m K ∗ ow c (OR c 0 + OS c i.val) ∗ dutyTok ER (kcell (dv c (i.val + 1), 0, c)) 0 () ∗ some' c (bufQ (dv c (i.val + 1))))
      ⊢ iprop((ow c (OR c 0 + OS c (i.val + 1)) -∗ run c k Q) -∗ run c (signalReady c e k) Q) := by
  subst he
  unfold signalReady
  rw [readyOwn_eq]
  iintro ⟨#HC, ⟨%W, HO⟩, Ht, Hb⟩ Hk
  iapply (Rounds.wp_signal 𝒱₀ ER (rd m) (c : Thread nD τ) none (dst := (dv c (i.val + 1) : Thread nD τ)) (sem := readySem c) (κ := K (dv c (i.val + 1), 0, c)) (r := 0) (d := ())
      (by rw [show (((dv c (i.val + 1) : Dev nD) : Thread nD τ), SemLoc.reg (readySem c)) = kcell (dv c (i.val + 1), 0, c) from rfl, duties_used m _ (used_ready' c i)]; exact Finset.mem_singleton_self _)
      ((amount_eq m (dv c (i.val + 1), 0, c) ()).trans (by show 1 = _; decide)) () (OR c 0 + OS c (i.val + 1))
      (show OR c 0 + OS c i.val = OR c 0 + OS c (i.val + 1) + tallyAt (kcell (dv c (i.val + 1), 0, c)) () 1 by rw [OS_step c i, ← add_assoc])) $$ [HO Ht Hb]
  · isplitr; · iapply (ctx_inv m K (dv c (i.val + 1), 0, c)) $$ HC
    isplitl [HO]; · iexact HO
    isplitl [Ht]; · iexact Ht
    isplitl [Hb]
    · rw [show (rd m).payload (((dv c (i.val + 1) : Dev nD) : Thread nD τ), SemLoc.reg (readySem c)) 0 () = some' c (bufQ (dv c (i.val + 1))) from payload_eq m (dv c (i.val + 1), 0, c) ()]
      iexact Hb
    iapply (ctx_reached m K (dv c (i.val + 1), 0, c)) $$ HC
  iintro HO
  iapply Hk
  iexists W; iexact HO

/-- Starting the copy of a block to another device. -/
theorem wp_copyTo (r : Fin 7) (e : Dev nD) (he : e = dv c (r.val + 1)) {src : Memref sig .tc .vmem S512x512 .fp8e4m3} (hsrc : src = x8rows (dv c (r.val + 1)))
    {dst : Memref sig .tc .vmem S512x512 .fp8e4m3} (hdst : dst = bufQ c) {sm : DmaSem sig} (hsm : sm = recvSem c)
    {h1 : src.view.WordExact} {h2 : dst.view.WordExact} {hsc : dst.view.ref.isScScratch = false}
    {h3 : DmaTarget.Typed (nD := nD) (τ := τ) (p := .tc) .vmem (.dma sm) (.remote (Dev.tc e : Thread nD τ) dst (.dma (sendSem r.castSucc)) hsc)} :
    iprop(ctx m K ∗ ow c (OR c r.val) ∗ own c (x8rows (dv c (r.val + 1))) (x8v m c (dv c (r.val + 1))) ∗ some' (dv c (r.val + 1)) (bufQ c)
        ∗ dutyTok ER (kcell (c, 2, r.castSucc)) 0 () ∗ dutyTok ER (kcell (dv c (r.val + 1), 1, c)) 0 ())
      ⊢ iprop((iprop(cred (tallyAt (kcell (c, 2, r.castSucc)) () N) ∗ ow c (OR c (r.val + 1))) -∗ run c k Q)
          -∗ run c (.op (.enqueueDma src (.remote (Dev.tc e) dst (.dma (sendSem r.castSucc)) hsc) (.dma sm) h1 h2 h3) fun _ => k) Q) := by
  subst he hsrc hdst hsm
  iintro ⟨#HC, ⟨%W, HO⟩, Hs, ⟨%Y, Hd⟩, Ht1, Ht2⟩ Hk
  unfold own owns
  icases Hs with ⟨%fs, %hfs, Hs⟩
  icases Hd with ⟨%fd, -, Hd⟩
  iapply (Rounds.wp_send_pointsTo 𝒱₀ ER (rd m) (c : Thread nD τ) none (κ₁ := K (c, 2, r.castSucc)) (κ₂ := K (dv c (r.val + 1), 1, c))
    (r₁ := 0) (r₂ := 0) (d₁ := ()) (d₂ := ()) (fd := fd)
    (show () ∈ (rd m).duties (kcell (c, 2, r.castSucc)) 0 by rw [duties_used m _ (used_send c r)]; exact Finset.mem_singleton_self _)
    (show () ∈ (rd m).duties (kcell (dv c (r.val + 1), 1, c)) 0 by rw [duties_used m _ (used_recv' c r)]; exact Finset.mem_singleton_self _)
    () () N (credit_eq c) (amount_eq m (c, 2, r.castSucc) ()) (amount_eq m (dv c (r.val + 1), 1, c) ()) (OR c (r.val + 1)) (OR_step c r) (W := W)
    (by
      refine (?_ : _ ⊢ _).trans (Entails.of_eq (payload_eq m (c, 2, r.castSucc) ()).symm)
      rw [pay_send]
      exact own_of_points _ hfs)
    (by
      refine (?_ : _ ⊢ _).trans (Entails.of_eq (payload_eq m (dv c (r.val + 1), 1, c) ()).symm)
      rw [pay_recv]
      exact own_of_points _ ((View.read_write_univ _ _).trans hfs))) $$ [HO Hs Hd Ht1 Ht2]
  · isplitr; · iapply (ctx_inv m K (c, 2, r.castSucc)) $$ HC
    isplitr; · iapply (ctx_inv m K (dv c (r.val + 1), 1, c)) $$ HC
    isplitl [Hs]; · iexact Hs
    isplitl [Hd]; · iexact Hd
    isplitl [HO]; · iexact HO
    isplitl [Ht1]; · iexact Ht1
    isplitr; · iapply (ctx_reached m K (c, 2, r.castSucc)) $$ HC
    isplitl [Ht2]; · iexact Ht2
    iapply (ctx_reached m K (dv c (r.val + 1), 1, c)) $$ HC
  iintro ⟨Hcr, HO⟩
  iapply Hk
  isplitl [Hcr]; · iexact Hcr
  iexists W; iexact HO

/-- Waiting for a regular counter. -/
theorem wp_waitReady (s : Fin 8) (hs : used (c, 0, s)) {sm : Sem sig} (hsm : sm = readySem s) {O : CellTallies nD τ sig Unit} :
    iprop(ctx m K ∗ cred (tallyAt (kcell (c, 0, s)) () 1) ∗ ow c O ∗ MayWait (c : Thread nD τ) (.reg (readySem s)) () O ∗ atPos ER (kcell (c, 0, s)) 0 ∅ 0)
      ⊢ iprop((iprop(ow c O ∗ atPos ER (kcell (c, 0, s)) (0 + 1) ∅ 0 ∗ some' s (bufQ c)) -∗ run c k Q)
          -∗ run c (.op (.semWait sm (1#32).toInt) fun _ => k) Q) := by
  subst hsm
  rw [← pay_ready m c s]
  exact wp_event m K (c, 0, s) hs rfl rfl rfl (wpE_semWait_eq 𝒱₀ (c : Thread nD τ) none Set.univ)

/-- Waiting for a copy's counter of the row `recv` or `send`. -/
theorem wp_waitCopy (x : Cell) (hx : used x) (hc : x.1 = c) (h0 : x.2.1 ≠ 0) {sm : DmaSem sig} (hsm : SemLoc.dma sm = ksem x.2)
    {src dst : Memref sig .tc .vmem S512x512 .fp8e4m3} (hN : dst.view.dmaCredit = N) {h1 : src.view.WordExact} {h2 : dst.view.WordExact} :
    iprop(ctx m K ∗ cred (tallyAt (kcell x) () N) ∗ ow c 0 ∗ atPos ER (kcell x) 0 ∅ 0)
      ⊢ iprop((iprop(ow c 0 ∗ atPos ER (kcell x) (0 + 1) ∅ 0 ∗ pay m x) -∗ run c k Q)
          -∗ run c (.op (.waitDma2 sm src dst h1 h2) fun _ => k) Q) := by
  have ha : amt x = N := if_neg h0
  have key := wp_event (k := k) (Q := Q) (O := 0) m K x hx hc hsm (hN.trans ha.symm) (wpE_waitDma2_eq (hsrc := h1) (hdst := h2) 𝒱₀ (c : Thread nD τ) none Set.univ)
  rw [ha] at key
  iintro ⟨#HC, Hcr, HO, Hat⟩ Hk
  iapply key $$ [Hcr HO Hat] Hk
  isplitr; · iexact HC
  isplitl [Hcr]; · iexact Hcr
  isplitl [HO]; · iexact HO
  isplitr; · rw [MayWait_zero]; iempintro
  iexact Hat

/-- Sending the block of step `r`. -/
theorem wp_sendX (r : Fin 7) (e : Dev nD) (he : e = dv c (r.val + 1)) :
    iprop(ctx m K ∗ ow c (OR c r.val) ∗ cred (tallyAt (kcell (c, 0, dv c (r.val + 1))) () 1) ∗ atPos ER (kcell (c, 0, dv c (r.val + 1))) 0 ∅ 0
        ∗ own c (x8rows (dv c (r.val + 1))) (x8v m c (dv c (r.val + 1)))
        ∗ dutyTok ER (kcell (c, 2, r.castSucc)) 0 () ∗ dutyTok ER (kcell (dv c (r.val + 1), 1, c)) 0 ())
      ⊢ iprop((iprop(cred (tallyAt (kcell (c, 2, r.castSucc)) () N) ∗ ow c (OR c (r.val + 1)) ∗ atPos ER (kcell (c, 0, dv c (r.val + 1))) (0 + 1) ∅ 0) -∗ run c k Q)
          -∗ run c (sendX c r e k) Q) := by
  unfold sendX
  iintro ⟨#HC, HO, Hcr, Hat, Hx, Ht1, Ht2⟩ Hk
  iapply (wp_waitReady m K (dv c (r.val + 1)) (used_ready c r) (readyOf_eq c r) (O := OR c r.val)) $$ [HO Hcr Hat]
  · isplitr; · iexact HC
    isplitl [Hcr]; · iexact Hcr
    isplitl [HO]; · iexact HO
    isplitr
    · iapply (mayWait_ready c (dv c (r.val + 1)) r.val)
      iapply (ctx_lev m K) $$ HC
    iexact Hat
  iintro ⟨HO, Hat, Hb⟩
  iapply (wp_copyTo m K r e he (x8src_eq c r.castSucc) (bufdst_eq c) (recvOwn_eq c)) $$ [HO Hx Hb Ht1 Ht2]
  · isplitr; · iexact HC
    isplitl [HO]; · iexact HO
    isplitl [Hx]; · iexact Hx
    isplitl [Hb]; · iexact Hb
    isplitl [Ht1]; · iexact Ht1
    iexact Ht2
  iintro ⟨Hcr, HO⟩
  iapply Hk
  isplitl [Hcr]; · iexact Hcr
  isplitl [HO]; · iexact HO
  iexact Hat

/-- Waiting for the block of product `j`. -/
theorem wp_recvX (j : Fin 7) :
    iprop(ctx m K ∗ ow c 0 ∗ cred (tallyAt (kcell (c, 1, dv c (7 - j.val))) () N) ∗ atPos ER (kcell (c, 1, dv c (7 - j.val))) 0 ∅ 0)
      ⊢ iprop((iprop(ow c 0 ∗ atPos ER (kcell (c, 1, dv c (7 - j.val))) (0 + 1) ∅ 0 ∗ own c (bufslot (dv c (7 - j.val))) (bufv m c (dv c (7 - j.val)))) -∗ run c k Q)
          -∗ run c (recvX c j k) Q) := by
  unfold recvX
  iintro ⟨#HC, HO, Hcr, Hat⟩ Hk
  iapply (wp_waitCopy m K (c, 1, dv c (7 - j.val)) (used_recv c j) rfl (show (1 : Fin 3) ≠ 0 by decide) (congrArg SemLoc.dma (recvOf_eq c j)) ((congrArg (fun d : Memref sig .tc .vmem S512x512 .fp8e4m3 => d.view.dmaCredit) (bufsrc_eq c j)).trans (credit_eq _))) $$ [HO Hcr Hat]
  · isplitr; · iexact HC
    isplitl [Hcr]; · iexact Hcr
    isplitl [HO]; · iexact HO
    iexact Hat
  iintro ⟨HO, Hat, Hb⟩
  iapply Hk
  isplitl [HO]; · iexact HO
  isplitl [Hat]; · iexact Hat
  ihave Hb := (Entails.of_eq (pay_recv m c _)) $$ Hb
  iapply (own_unsqueeze (c := c) (bufslot (dv c (7 - j.val))) squeezes_S1x512x512_S512x512 (by decide) (x8v m (dv c (7 - j.val)) c))
  iexact Hb

/-- Waiting until the copy of step `r` has left. -/
theorem wp_waitSend (r : Fin 7) :
    iprop(ctx m K ∗ ow c 0 ∗ cred (tallyAt (kcell (c, 2, r.castSucc)) () N) ∗ atPos ER (kcell (c, 2, r.castSucc)) 0 ∅ 0)
      ⊢ iprop((iprop(ow c 0 ∗ atPos ER (kcell (c, 2, r.castSucc)) (0 + 1) ∅ 0 ∗ own c (x8rows (dv c (r.val + 1))) (x8v m c (dv c (r.val + 1)))) -∗ run c k Q)
          -∗ run c (waitSend c r k) Q) := by
  unfold waitSend
  iintro ⟨#HC, HO, Hcr, Hat⟩ Hk
  iapply (wp_waitCopy m K (c, 2, r.castSucc) (used_send c r) rfl (show (2 : Fin 3) ≠ 0 by decide) rfl ((congrArg (fun d : Memref sig .tc .vmem S512x512 .fp8e4m3 => d.view.dmaCredit) (x8src_eq c r.castSucc)).trans credit_x8)) $$ [HO Hcr Hat]
  · isplitr; · iexact HC
    isplitl [Hcr]; · iexact Hcr
    isplitl [HO]; · iexact HO
    iexact Hat
  iintro ⟨HO, Hat, Hb⟩
  iapply Hk
  isplitl [HO]; · iexact HO
  isplitl [Hat]; · iexact Hat
  iapply (Entails.of_eq (pay_send m c r)) $$ Hb

end Cert.KernelIdeal.Gemm

end
-- ==== Proof.Local.lean ====
/-
  The steps of the body that stay on one device: the copies into and out of the staging slots, the rounding of
  a staged block, the reads of the products' operands, and the halves of the result.
-/
module

public import proofs.«01_k».proof.Proof.Cells

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Cell → ℕ)
variable {c : Dev nD} {Q : PUnit.{1} → sProp (MT nD τ sig Unit (Elt F) ℕ UU ℕ)} {k : Body F}

/-! ## Slots -/

/-- The x staging slot as loads see it. -/
abbrev xslot (t : Fin 2) : Memref sig .tc .vmem S1x512x512 .f32 := (Memref.whole cc0_scratch2).slice (slotX t) (fun _ => rfl)
/-- The weight staging slot as loads see it. -/
abbrev wslot (t : Fin 2) : Memref sig .tc .vmem S1x512x2048 .f32 := (Memref.whole cc0_scratch3).slice (slotW t) (fun _ => rfl)
/-- The result staging slot as stores see it. -/
abbrev oslot (t : Fin 2) : Memref sig .tc .vmem S1x512x1024 .f32 := (Memref.whole cc0_scratch5).slice (slotO t) (fun _ => rfl)

omit [FloatOps F] in
theorem some_squeeze {sp : Space} {s s' : Shape} {e : EltTy} (m : Memref sig .tc sp s e) (h : s.Squeezes s') (hc : s.ShapeCasts s') :
    some' (F := F) c m ⊢ some' (F := F) c (m.squeeze s' h) := by
  iintro ⟨%X, H⟩
  iexists _
  iapply (own_squeeze m h hc X) $$ H
omit [FloatOps F] in
theorem some_unsqueeze {sp : Space} {s s' : Shape} {e : EltTy} (m : Memref sig .tc sp s e) (h : s.Squeezes s') (hc : s'.ShapeCasts s) :
    some' (F := F) c (m.squeeze s' h) ⊢ some' (F := F) c m := by
  iintro ⟨%X, H⟩
  iexists _
  iapply (own_unsqueeze m h hc X) $$ H

/-- What a copy of an x block adds to its counter, -/
def NX : ℕ := (xstage 0).view.dmaCredit
/-- of a weight block, -/
def NW : ℕ := (wstage 0).view.dmaCredit
/-- of half a result. -/
def NO : ℕ := (ohalf 0).view.dmaCredit
theorem NX_pos : 0 < NX := by unfold NX; decide +kernel
theorem NW_pos : 0 < NW := by unfold NW; decide +kernel
theorem NO_pos : 0 < NO := by unfold NO; decide +kernel
theorem NX_eq (t : Fin 2) : (xstage t).view.dmaCredit = NX := rfl
theorem NW_eq (t : Fin 2) : (wstage t).view.dmaCredit = NW := rfl
theorem NO_eq (t : Fin 2) : (ohalf t).view.dmaCredit = NO := rfl

theorem xsem_local : ∀ (t : Fin 2) p, ksem p ≠ .dma (xsem t) := by decide
theorem wsem_local : ∀ (t : Fin 2) p, ksem p ≠ .dma (wsem t) := by decide
theorem osem_local : ∀ (t : Fin 2) p, ksem p ≠ .dma (osem t) := by decide

/-- Row block `e` of x on its way into staging slot `t`. -/
abbrev flightX (c : Dev nD) (t : Fin 2) (e : Dev nD) : sProp 𝕄 :=
  Flight EC (c : Thread nD τ) (.dma (xsem t)) () NX iprop(own c (xstage t) (xblk m c e) ∗ own c (xrows e) (xblk m c e))
/-- Row block `e` of the weights on its way into staging slot `t`. -/
abbrev flightW (c : Dev nD) (t : Fin 2) (e : Dev nD) : sProp 𝕄 :=
  Flight EC (c : Thread nD τ) (.dma (wsem t)) () NW iprop(own c (wstage t) (wblk m c e) ∗ own c (wrows e) (wblk m c e))
/-- Half `t` of the result on its way out. -/
abbrev flightO (c : Dev nD) (t : Fin 2) (v : FVec F S512x1024 .f32) : sProp 𝕄 :=
  Flight EC (c : Thread nD τ) (.dma (osem t)) () NO iprop(own c (ohalf t) v ∗ own c (ostage t) v)

/-! ## Copies in -/

/-- Starting the copy of an x block. -/
theorem wp_startX (e : Dev nD) (t : Fin 2) {src : Memref sig .tc .hbm S512x512 .f32} {hs : src.view.WordExact} (h : src = xrows e) :
    iprop(own c (xrows e) (xblk m c e) ∗ some' c (xstage t) ∗ semVal ((c : Thread nD τ), .dma (xsem t)) 0)
      ⊢ iprop((flightX m c t e -∗ run c k Q) -∗ run c (startX src hs t k) Q) :=
  wp_start h NX (NX_eq t) NX_pos

/-- Starting the copy of a weight block. -/
theorem wp_startW (e : Dev nD) (t : Fin 2) {src : Memref sig .tc .hbm S512x2048 .f32} {hs : src.view.WordExact} (h : src = wrows e) :
    iprop(own c (wrows e) (wblk m c e) ∗ some' c (wstage t) ∗ semVal ((c : Thread nD τ), .dma (wsem t)) 0)
      ⊢ iprop((flightW m c t e -∗ run c k Q) -∗ run c (startW src hs t k) Q) :=
  wp_start h NW (NW_eq t) NW_pos

/-! ## Rounding a staged block -/

/-- Rounding the x block of step `r`. -/
theorem wp_roundX (r : Fin 8) (n : ℕ) :
    iprop(ctx m K ∗ ow c (OR c n) ∗ flightX m c (par r.val) (dv c (r.val + 1)) ∗ some' c (x8rows (dv c (r.val + 1))))
      ⊢ iprop((iprop(ow c (OR c n) ∗ semVal ((c : Thread nD τ), .dma (xsem (par r.val))) 0 ∗ some' c (xstage (par r.val))
            ∗ own c (xrows (dv c (r.val + 1))) (xblk m c (dv c (r.val + 1))) ∗ own c (x8rows (dv c (r.val + 1))) (x8v m c (dv c (r.val + 1)))) -∗ run c k Q)
          -∗ run c (roundX c r k) Q) := by
  unfold roundX
  iintro ⟨#HC, HO, HF, H8⟩ Hk
  iapply (wp_waitOwn (NX_eq (par r.val)) (O := OR c n)) $$ [HO HF]
  · isplitl [HF]; · iexact HF
    isplitl [HO]; · iexact HO
    iapply (mayWait_local c _ (xsem_local (par r.val)) n)
    iapply (ctx_lev m K) $$ HC
  iintro ⟨⟨Hst, Hx⟩, Hv, HO⟩
  ihave Hst := (own_unsqueeze (c := c) (xslot (par r.val)) squeezes_S1x512x512_S512x512 (by decide) (xblk m c (dv c (r.val + 1)))) $$ Hst
  iapply (wp_loadOwn (m := Memref.whole cc0_scratch2) rfl) $$ Hst
  iintro Hst
  iapply (wp_loadAny (m := Memref.whole cc0_scratch0) (off4_eq c r)) $$ H8
  iintro H8
  iapply (wp_storeOwn (m := Memref.whole cc0_scratch0) (off4_eq c r)) $$ H8
  iintro H8
  iapply Hk
  isplitl [HO]; · iexact HO
  isplitl [Hv]; · iexact Hv
  isplitl [Hst]
  · iexists _
    iapply (own_squeeze (c := c) (xslot (par r.val)) squeezes_S1x512x512_S512x512 (by decide)) $$ Hst
  isplitl [Hx]; · iexact Hx
  iexact H8

/-- Rounding a weight block. -/
theorem wp_roundW (e : Dev nD) (t : Fin 2) (O : CellTallies nD τ sig Unit) (hO : ∃ n, O = OR c n) {src : Memref sig .tc .hbm S512x2048 .f32} {hs : src.view.WordExact}
    {off : Fin 3 → ℕ} (hoff : off = ![e.val, 0, 0]) {inb : ∀ a, off a + S1x512x2048.size a ≤ S8x512x2048.size a}
    {hp : (Rect.unit (s := S8x512x2048) off S1x512x2048.size inb).PackedRows (EltTy.packing .fp8e4m3)} :
    iprop(ctx m K ∗ ow c O ∗ flightW m c t e ∗ some' c (w8slot e))
      ⊢ iprop((iprop(ow c O ∗ semVal ((c : Thread nD τ), .dma (wsem t)) 0 ∗ some' c (wstage t) ∗ own c (wrows e) (wblk m c e) ∗ own c (w8slot e) (w8v m c e)) -∗ run c k Q)
          -∗ run c (roundW src hs t off inb hp k) Q) := by
  obtain ⟨n, rfl⟩ := hO
  unfold roundW
  iintro ⟨#HC, HO, HF, H8⟩ Hk
  iapply (wp_waitOwn (NW_eq t) (O := OR c n)) $$ [HO HF]
  · isplitl [HF]; · iexact HF
    isplitl [HO]; · iexact HO
    iapply (mayWait_local c _ (wsem_local t) n)
    iapply (ctx_lev m K) $$ HC
  iintro ⟨⟨Hst, Hx⟩, Hv, HO⟩
  ihave Hst := (own_unsqueeze (c := c) (wslot t) squeezes_S1x512x2048_S512x2048 (by decide) (wblk m c e)) $$ Hst
  iapply (wp_loadOwn (m := Memref.whole cc0_scratch3) rfl) $$ Hst
  iintro Hst
  iapply (wp_loadAny (m := Memref.whole cc0_scratch4) hoff) $$ H8
  iintro H8
  iapply (wp_storeOwn (m := Memref.whole cc0_scratch4) hoff) $$ H8
  iintro H8
  iapply Hk
  isplitl [HO]; · iexact HO
  isplitl [Hv]; · iexact Hv
  isplitl [Hst]
  · iexists _
    iapply (own_squeeze (c := c) (wslot t) squeezes_S1x512x2048_S512x2048 (by decide)) $$ Hst
  isplitl [Hx]; · iexact Hx
  iexact H8

/-! ## Reads -/

/-- The device's own product. -/
theorem wp_readOwn {kk : FVec F S512x2048 .f32 → Body F} :
    iprop(own c (x8rows c) (x8v m c c) ∗ own c (w8slot c) (w8v m c c))
      ⊢ iprop((iprop(own c (x8rows c) (x8v m c c) ∗ own c (w8slot c) (w8v m c c)) -∗ run c (kk (accv m c 0)) Q) -∗ run c (readOwn c kk) Q) := by
  unfold readOwn
  iintro ⟨H8, HW⟩ Hk
  iapply (wp_loadOwn (m := Memref.whole cc0_scratch0) (off10_eq c)) $$ H8
  iintro H8
  iapply (wp_loadOwn (m := Memref.whole cc0_scratch4) (off8_eq c)) $$ HW
  iintro HW
  iapply Hk
  isplitl [H8]; · iexact H8
  iexact HW

theorem hz1 : (![0] : Fin 1 → ℕ) = fun _ => 0 := funext fun a => by fin_cases a; rfl

/-- The two scales, multiplied. -/
theorem wp_readScale {kk : F .f32 → Body F} :
    iprop((((c : Thread nD τ).loc cc0_stg0_0) ↦{fullShare} sxv m c) ∗ (((c : Thread nD τ).loc cc0_stg1_0) ↦{fullShare} swv m c))
      ⊢ iprop((iprop((((c : Thread nD τ).loc cc0_stg0_0) ↦{fullShare} sxv m c) ∗ (((c : Thread nD τ).loc cc0_stg1_0) ↦{fullShare} swv m c)) -∗ run c (kk (scalev m c)) Q)
          -∗ run c (readScale (Memref.whole cc0_stg0_0) (Memref.whole cc0_stg1_0) kk) Q) := by
  unfold readScale
  iintro ⟨Hx, Hw⟩ Hk
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hw; iintro Hw
  rw [show (Memref.whole cc0_stg0_0).view.readAt (Elt F) (Rect.unit (s := S1) ![0] S1.size inb_S1_S1_0).toLoadRect (sxv m c) = sxv m c from
    Memref.readAt_unit_zero (Elt F) cc0_stg0_0 hz1 _ _]
  rw [show (Memref.whole cc0_stg1_0).view.readAt (Elt F) (Rect.unit (s := S1) ![0] S1.size inb_S1_S1_0).toLoadRect (swv m c) = swv m c from
    Memref.readAt_unit_zero (Elt F) cc0_stg1_0 hz1 _ _]
  iapply Hk
  isplitl [Hx]; · iexact Hx
  iexact Hw

/-- The product of one block received, added to the sum. -/
theorem wp_addProduct (j : Fin 7) {kk : FVec F S512x2048 .f32 → Body F} :
    iprop(own c (bufslot (dv c (7 - j.val))) (bufv m c (dv c (7 - j.val))) ∗ own c (w8slot (dv c (7 - j.val))) (w8v m c (dv c (7 - j.val))))
      ⊢ iprop((iprop(own c (bufslot (dv c (7 - j.val))) (bufv m c (dv c (7 - j.val))) ∗ own c (w8slot (dv c (7 - j.val))) (w8v m c (dv c (7 - j.val)))) -∗ run c (kk (accv m c (j.val + 1))) Q)
          -∗ run c (addProduct c j (accv m c j.val) kk) Q) := by
  unfold addProduct readBuf
  iintro ⟨HB, HW⟩ Hk
  iapply (wp_loadOwn (m := Memref.whole cc0_scratch1) (off14_eq c j)) $$ HB
  iintro HB
  iapply (wp_loadOwn (m := Memref.whole cc0_scratch4) (off11_eq c j)) $$ HW
  iintro HW
  iapply Hk
  isplitl [HB]; · iexact HB
  iexact HW

/-! ## The halves of the result -/

/-- Staging a half and starting its copy out. -/
theorem wp_putHalf (t : Fin 2) (v : FVec F S1x512x1024 .f32) :
    iprop(some' c (ostage t) ∗ some' c (ohalf t) ∗ semVal ((c : Thread nD τ), .dma (osem t)) 0)
      ⊢ iprop((flightO c t (shapeCast S512x1024 v) -∗ run c k Q) -∗ run c (putHalf t v k) Q) := by
  unfold putHalf
  iintro ⟨HS, Ho, Hv⟩ Hk
  ihave HS := (some_unsqueeze (c := c) (oslot t) squeezes_S1x512x1024_S512x1024 (by decide)) $$ HS
  iapply (wp_loadAny (m := Memref.whole cc0_scratch5) rfl) $$ HS
  iintro HS
  iapply (wp_storeOwn (m := Memref.whole cc0_scratch5) rfl) $$ HS
  iintro HS
  ihave HS := (own_squeeze (c := c) (oslot t) squeezes_S1x512x1024_S512x1024 (by decide) v) $$ HS
  iapply (wp_start (src := ostage t) (dst := ohalf t) rfl NO (NO_eq t) NO_pos) $$ [HS Ho Hv]
  · isplitl [HS]; · iexact HS
    isplitl [Ho]; · iexact Ho
    iexact Hv
  iintro HF
  iapply Hk
  iexact HF

/-- Waiting for the copy out of a half. -/
theorem wp_waitHalf (t : Fin 2) (v : FVec F S512x1024 .f32) :
    iprop(ctx m K ∗ ow c 0 ∗ flightO c t v)
      ⊢ iprop((iprop(ow c 0 ∗ own c (ohalf t) v ∗ some' c (ostage t) ∗ semVal ((c : Thread nD τ), .dma (osem t)) 0) -∗ run c k Q) -∗ run c (waitHalf t k) Q) := by
  unfold waitHalf
  iintro ⟨#HC, HO, HF⟩ Hk
  iapply (wp_waitOwn (NO_eq t) (O := 0)) $$ [HO HF]
  · isplitl [HF]; · iexact HF
    isplitl [HO]; · iexact HO
    rw [MayWait_zero]; iempintro
  iintro ⟨⟨Ho, HS⟩, Hv, HO⟩
  iapply Hk
  isplitl [HO]; · iexact HO
  isplitl [Ho]; · iexact Ho
  isplitl [HS]; · iexists _; iexact HS
  iexact Hv

theorem off14_last (c : Dev nD) : k0_off14 c (BitVec.ofNat 32 (1 + (6 : Fin 7).val)) = ![(dv c 1).val, 0, 0] := off14_eq c 6

omit [FloatOps F] in
theorem halves (Φ : Fin 2 → sProp 𝕄) : bigSep Finset.univ Φ = iprop(Φ 0 ∗ Φ 1) := bigSep_fin_two Φ

/-- The last product, and the two halves of the result. -/
theorem wp_lastProduct :
    iprop(ctx m K ∗ ow c 0 ∗ own c (bufslot (dv c 1)) (bufv m c (dv c 1)) ∗ own c (w8slot (dv c 1)) (w8v m c (dv c 1))
        ∗ (bigSep Finset.univ fun t : Fin 2 => iprop(some' (F := F) c (ostage t) ∗ some' (F := F) c (ohalf t) ∗ semVal ((c : Thread nD τ), .dma (osem t)) 0)))
      ⊢ iprop((iprop(ow c 0 ∗ own c (bufslot (dv c 1)) (bufv m c (dv c 1)) ∗ own c (w8slot (dv c 1)) (w8v m c (dv c 1))
          ∗ (bigSep Finset.univ fun t : Fin 2 => iprop(some' (F := F) c (ostage t) ∗ own c (ohalf t) (outq m c t) ∗ semVal ((c : Thread nD τ), .dma (osem t)) 0))) -∗ run c k Q)
          -∗ run c (lastProduct c (scalev m c) (accv m c 6) k) Q) := by
  unfold lastProduct readBuf
  rw [halves, halves]
  iintro ⟨#HC, HO, HB, HW, ⟨⟨HS0, HH0, Hv0⟩, ⟨HS1, HH1, Hv1⟩⟩⟩ Hk
  iapply (wp_loadOwn (m := Memref.whole cc0_scratch1) (off14_last c)) $$ HB
  iintro HB
  iapply (wp_loadPart (m := Memref.whole cc0_scratch4) (d := ![0, 0, 1024 * (0 : Fin 2).val]) ((off15_eq c).trans (funext fun a => by fin_cases a <;> rfl)) (half_inb 0)) $$ HW
  iintro HW
  iapply (wp_putHalf (0 : Fin 2)) $$ [HS0 HH0 Hv0]
  · isplitl [HS0]; · iexact HS0
    isplitl [HH0]; · iexact HH0
    iexact Hv0
  iintro HF0
  iapply (wp_loadOwn (m := Memref.whole cc0_scratch1) (off14_last c)) $$ HB
  iintro HB
  iapply (wp_loadPart (m := Memref.whole cc0_scratch4) (d := ![0, 0, 1024 * (1 : Fin 2).val]) ((off16_eq c).trans (funext fun a => by fin_cases a <;> rfl)) (half_inb 1)) $$ HW
  iintro HW
  iapply (wp_putHalf (1 : Fin 2)) $$ [HS1 HH1 Hv1]
  · isplitl [HS1]; · iexact HS1
    isplitl [HH1]; · iexact HH1
    iexact Hv1
  iintro HF1
  iapply (wp_waitHalf m K 0 (outq m c 0)) $$ [HO HF0]
  · isplitr; · iexact HC
    isplitl [HO]; · iexact HO
    iexact HF0
  iintro ⟨HO, HH0, HS0, Hv0⟩
  iapply (wp_waitHalf m K 1 (outq m c 1)) $$ [HO HF1]
  · isplitr; · iexact HC
    isplitl [HO]; · iexact HO
    iexact HF1
  iintro ⟨HO, HH1, HS1, Hv1⟩
  iapply Hk
  isplitl [HO]; · iexact HO
  isplitl [HB]; · iexact HB
  isplitl [HW]; · iexact HW
  isplitl [HS0 HH0 Hv0]
  · isplitl [HS0]; · iexact HS0
    isplitl [HH0]; · iexact HH0
    iexact Hv0
  · isplitl [HS1]; · iexact HS1
    isplitl [HH1]; · iexact HH1
    iexact Hv1

end Cert.KernelIdeal.Gemm

end
-- ==== Proof.Stages.lean ====
/-
  The stages of the body, each from what it takes to what it gives: telling the others, sending the seven
  blocks, the products in order, and waiting until the copies have left.
-/
module

public import proofs.«01_k».proof.Proof.Local

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Cell → ℕ)
variable {c : Dev nD} {Q : PUnit.{1} → sProp (MT nD τ sig Unit (Elt F) ℕ UU ℕ)} {k : Body F}

omit [FloatOps F] in
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## What each step takes and gives -/

/-- What telling the `r`-th device takes: the right to, and its landing place here. -/
def sigPre (c : Dev nD) (r : Fin 7) : sProp 𝕄 := iprop(dutyTok ER (kcell (dv c (r.val + 1), 0, c)) 0 () ∗ some' (F := F) c (bufQ (dv c (r.val + 1))))
/-- What sending to the `r`-th device takes: its word, the rights to the two counters, and the place of the rounded block. -/
def sendPre (c : Dev nD) (r : Fin 7) : sProp 𝕄 :=
  iprop(cred (tallyAt (kcell (c, 0, dv c (r.val + 1))) () 1) ∗ atPos ER (kcell (c, 0, dv c (r.val + 1))) 0 ∅ 0
    ∗ dutyTok ER (kcell (c, 2, r.castSucc)) 0 () ∗ dutyTok ER (kcell (dv c (r.val + 1), 1, c)) 0 () ∗ some' (F := F) c (x8rows (dv c (r.val + 1))))
/-- What it leaves: the claim on the copy's leaving, and the counter of its word used up. -/
def sendPost (c : Dev nD) (r : Fin 7) : sProp 𝕄 :=
  iprop(cred (tallyAt (kcell (c, 2, r.castSucc)) () N) ∗ atPos ER (kcell (c, 0, dv c (r.val + 1))) (0 + 1) ∅ 0)
/-- What waiting for block `j` takes. -/
def recvPre (c : Dev nD) (j : Fin 7) : sProp 𝕄 :=
  iprop(cred (tallyAt (kcell (c, 1, dv c (7 - j.val))) () N) ∗ atPos ER (kcell (c, 1, dv c (7 - j.val))) 0 ∅ 0)
/-- What it gives. -/
def recvPost (c : Dev nD) (j : Fin 7) : sProp 𝕄 :=
  iprop(atPos ER (kcell (c, 1, dv c (7 - j.val))) (0 + 1) ∅ 0 ∗ own c (bufslot (dv c (7 - j.val))) (bufv m c (dv c (7 - j.val))))
/-- What waiting for the leaving of copy `r` takes. -/
def leavePre (c : Dev nD) (r : Fin 7) : sProp 𝕄 := iprop(cred (tallyAt (kcell (c, 2, r.castSucc)) () N) ∗ atPos ER (kcell (c, 2, r.castSucc)) 0 ∅ 0)
/-- What it gives. -/
def leavePost (c : Dev nD) (r : Fin 7) : sProp 𝕄 :=
  iprop(atPos ER (kcell (c, 2, r.castSucc)) (0 + 1) ∅ 0 ∗ own c (x8rows (dv c (r.val + 1))) (x8v m c (dv c (r.val + 1))))
/-- An x staging slot at rest. -/
def restX (c : Dev nD) (t : Fin 2) : sProp 𝕄 := iprop(some' (F := F) c (xstage t) ∗ semVal ((c : Thread nD τ), .dma (xsem t)) 0)
/-- A weight staging slot at rest. -/
def restW (c : Dev nD) (t : Fin 2) : sProp 𝕄 := iprop(some' (F := F) c (wstage t) ∗ semVal ((c : Thread nD τ), .dma (wsem t)) 0)
/-- Row block `d` of x. -/
def hasX (c d : Dev nD) : sProp 𝕄 := own c (xrows d) (xblk m c d)
/-- Row block `d` of the weights. -/
def hasW (c d : Dev nD) : sProp 𝕄 := own c (wrows d) (wblk m c d)
/-- The place of rounded weight block `d`. -/
def placeW (c d : Dev nD) : sProp 𝕄 := some' (F := F) c (w8slot d)
/-- Rounded weight block `d`. -/
def roundedW (c d : Dev nD) : sProp 𝕄 := own c (w8slot d) (w8v m c d)
/-- The two scales. -/
def scales (c : Dev nD) : sProp 𝕄 := iprop((((c : Thread nD τ).loc cc0_stg0_0) ↦{fullShare} sxv m c) ∗ (((c : Thread nD τ).loc cc0_stg1_0) ↦{fullShare} swv m c))
/-- What the two halves of the result take, -/
def halfPre (c : Dev nD) (t : Fin 2) : sProp 𝕄 := iprop(some' (F := F) c (ostage t) ∗ some' (F := F) c (ohalf t) ∗ semVal ((c : Thread nD τ), .dma (osem t)) 0)
/-- and what they give. -/
def halfPost (c : Dev nD) (t : Fin 2) : sProp 𝕄 := iprop(some' (F := F) c (ostage t) ∗ own c (ohalf t) (outq m c t) ∗ semVal ((c : Thread nD τ), .dma (osem t)) 0)

/-! ## Telling the others -/

theorem wp_tell (i : Fin 7) (n n' : ℕ) (hn : i.val = n) (hn' : n + 1 = n') (e : Dev nD) (he : e = dv c (i.val + 1)) :
    iprop(ctx m K ∗ ow c (OR c 0 + OS c n) ∗ sigPre (F := F) c i) ⊢ iprop((ow c (OR c 0 + OS c n') -∗ run c k Q) -∗ run c (signalReady c e k) Q) := by
  subst hn hn'
  unfold sigPre
  iintro ⟨#HC, HO, Ht, Hb⟩ Hk
  iapply (wp_signalReady m K i e he) $$ [HO Ht Hb] Hk
  isplitr; · iexact HC
  isplitl [HO]; · iexact HO
  isplitl [Ht]; · iexact Ht
  iexact Hb

/-- The barrier: a device signals itself, and takes the signal. -/
theorem wp_barrier (e : Dev nD) (he : e = c) (n : ℕ) :
    iprop(ctx m K ∗ ow c (OR c n) ∗ semVal ((c : Thread nD τ), .reg barrierSem) 0)
      ⊢ iprop((iprop(ow c (OR c n) ∗ semVal ((c : Thread nD τ), .reg barrierSem) 0) -∗ run c k Q)
          -∗ run c (.op (.semSignal (e, .tc) barrierSem (1#32).toInt) fun _ => .op (.semWait barrierSem (1#32).toInt) fun _ => k) Q) := by
  subst he
  iintro ⟨#HC, ⟨%W, HO⟩, Hv⟩ Hk
  iapply (wp_signalLocal EC 𝒱₀ (e : Thread nD τ) none () rfl) $$ Hv
  iintro HS
  iapply (wp_semWaitLocalO EC 𝒱₀ (e : Thread nD τ) none () (by decide)) $$ [HS HO]
  · isplitl [HS]; · iexact HS
    isplitl [HO]; · iexact HO
    iapply (mayWait_local e (.reg barrierSem) (by decide) n)
    iapply (ctx_lev m K) $$ HC
  iintro ⟨Hv, HO⟩
  iapply Hk
  isplitl [HO]; · iexists _; iexact HO
  iexact Hv

/-- The opening. -/
theorem wp_opening :
    iprop(ctx m K ∗ ow c (O₀ c) ∗ (bigSep Finset.univ fun r : Fin 7 => sigPre (F := F) c r) ∗ semVal ((c : Thread nD τ), .reg barrierSem) 0
        ∗ hasW m c c ∗ restW (F := F) c 0 ∗ hasX m c (dv c 1) ∗ restX (F := F) c 0 ∗ hasX m c (dv c 2) ∗ restX (F := F) c 1)
      ⊢ iprop((iprop(ow c (OR c 0) ∗ semVal ((c : Thread nD τ), .reg barrierSem) 0 ∗ flightW m c 0 c ∗ flightX m c 0 (dv c 1) ∗ flightX m c 1 (dv c 2)) -∗ run c k Q)
          -∗ run c (opening c k) Q) := by
  unfold opening O₀
  rw [sep7]
  iintro ⟨#HC, HO, ⟨H0, H1, H2, H3, H4, H5, H6⟩, Hb, HW, HrW, HX1, HrX0, HX2, HrX1⟩ Hk
  iapply (wp_tell m K 0 0 1 rfl rfl _ (dev1_eq c)) $$ [HO H0]
  · isplitr; · iexact HC
    isplitl [HO]; · iexact HO
    iexact H0
  iintro HO
  iapply (wp_tell m K 1 1 2 rfl rfl _ (dev2_eq c)) $$ [HO H1]
  · isplitr; · iexact HC
    isplitl [HO]; · iexact HO
    iexact H1
  iintro HO
  iapply (wp_tell m K 2 2 3 rfl rfl _ (dev3_eq c)) $$ [HO H2]
  · isplitr; · iexact HC
    isplitl [HO]; · iexact HO
    iexact H2
  iintro HO
  iapply (wp_tell m K 3 3 4 rfl rfl _ (dev4_eq c)) $$ [HO H3]
  · isplitr; · iexact HC
    isplitl [HO]; · iexact HO
    iexact H3
  iintro HO
  iapply (wp_tell m K 4 4 5 rfl rfl _ (dev5_eq c)) $$ [HO H4]
  · isplitr; · iexact HC
    isplitl [HO]; · iexact HO
    iexact H4
  iintro HO
  iapply (wp_tell m K 5 5 6 rfl rfl _ (dev6_eq c)) $$ [HO H5]
  · isplitr; · iexact HC
    isplitl [HO]; · iexact HO
    iexact H5
  iintro HO
  iapply (wp_tell m K 6 6 7 rfl rfl _ (dev7_eq c)) $$ [HO H6]
  · isplitr; · iexact HC
    isplitl [HO]; · iexact HO
    iexact H6
  rw [OS_end, add_zero]
  iintro HO
  iapply (wp_barrier m K _ (dev8_eq c) 0) $$ [HO Hb]
  · isplitr; · iexact HC
    isplitl [HO]; · iexact HO
    iexact Hb
  iintro ⟨HO, Hb⟩
  unfold restW restX hasX hasW
  iapply (wp_startW m c 0 (wsrc0_eq c)) $$ [HW HrW]
  · isplitl [HW]; · iexact HW
    iexact HrW
  iintro HW
  iapply (wp_startX m (dv c 1) 0 (xsrc_eq c 0)) $$ [HX1 HrX0]
  · isplitl [HX1]; · iexact HX1
    iexact HrX0
  iintro HX1
  iapply (wp_startX m (dv c 2) 1 (xsrc_eq c 1)) $$ [HX2 HrX1]
  · isplitl [HX2]; · iexact HX2
    iexact HrX1
  iintro HX2
  iapply Hk
  isplitl [HO]; · iexact HO
  isplitl [Hb]; · iexact Hb
  isplitl [HW]; · iexact HW
  isplitl [HX1]; · iexact HX1
  iexact HX2

/-! ## Sending -/

/-- Rounding and sending, when no further x copy is to be started. -/
theorem wp_roundSend (r : Fin 7) (t : Fin 2) (d : Dev nD) (n n' : ℕ) (ht : par r.val = t) (hd : dv c (r.val + 1) = d) (hn : r.val = n) (hn' : n + 1 = n')
    (e : Dev nD) (he : e = d) {mid : Body F → Body F} {A B : sProp 𝕄}
    (hmid : ∀ p : Body F, iprop(A ∗ restX (F := F) c t ∗ hasX m c d) ⊢ iprop((B -∗ run c p Q) -∗ run c (mid p) Q)) :
    iprop(ctx m K ∗ ow c (OR c n) ∗ flightX m c t d ∗ sendPre (F := F) c r ∗ A)
      ⊢ iprop((iprop(ow c (OR c n') ∗ sendPost (F := F) c r ∗ B) -∗ run c k Q) -∗ run c (roundX c r.castSucc (mid (sendX c r e k))) Q) := by
  subst ht hd hn hn' he
  unfold sendPre sendPost
  iintro ⟨#HC, HO, HF, ⟨Hcr, Hat, Ht1, Ht2, H8⟩, HA⟩ Hk
  iapply (wp_roundX m K r.castSucc r.val) $$ [HO HF H8]
  · isplitr; · iexact HC
    isplitl [HO]; · iexact HO
    isplitl [HF]; · iexact HF
    iexact H8
  iintro ⟨HO, Hv, Hst, HX, H8⟩
  iapply (hmid (sendX c r _ k)) $$ [HA Hv Hst HX]
  · isplitl [HA]; · iexact HA
    isplitl [Hst Hv]
    · unfold restX
      isplitl [Hst]; · iexact Hst
      iexact Hv
    unfold hasX; iexact HX
  iintro HB
  iapply (wp_sendX m K r _ rfl) $$ [HO Hcr Hat H8 Ht1 Ht2]
  · isplitr; · iexact HC
    isplitl [HO]; · iexact HO
    isplitl [Hcr]; · iexact Hcr
    isplitl [Hat]; · iexact Hat
    isplitl [H8]; · iexact H8
    isplitl [Ht1]; · iexact Ht1
    iexact Ht2
  iintro ⟨Hcr, HO, Hat⟩
  iapply Hk
  isplitl [HO]; · iexact HO
  isplitr [HB]
  · isplitl [Hcr]; · iexact Hcr
    iexact Hat
  iexact HB

/-- Step `r` of the first loop. -/
theorem wp_stepX (r : Fin 6) (r7 : Fin 7) (h7 : r.castLE (by decide) = r7) (t : Fin 2) (d d' : Dev nD) (n n' : ℕ) (ht : par r.val = t) (hd : dv c (r.val + 1) = d)
    (hd' : dv c (r.val + 3) = d') (hn : r.val = n) (hn' : n + 1 = n') (e : Dev nD) (he : e = d) :
    iprop(ctx m K ∗ ow c (OR c n) ∗ flightX m c t d ∗ sendPre (F := F) c r7 ∗ hasX m c d')
      ⊢ iprop((iprop(ow c (OR c n') ∗ sendPost (F := F) c r7 ∗ flightX m c t d' ∗ hasX m c d) -∗ run c k Q) -∗ run c (stepX c r e k) Q) := by
  subst h7 hd' ht
  refine wp_roundSend m K (r.castLE (by decide)) (par r.val) d n n' rfl hd hn hn' e he (mid := fun p => startX (xsrc2 c r) (View.wordExact_bits rfl) (par r.val) p)
    (B := iprop(flightX m c (par r.val) (dv c (r.val + 3)) ∗ hasX m c d)) fun p => ?_
  unfold restX hasX
  iintro ⟨HA, ⟨Hst, Hv⟩, HX⟩ Hk
  iapply (wp_startX m (dv c (r.val + 3)) (par r.val) (xsrc2_eq c r)) $$ [HA Hst Hv]
  · isplitl [HA]; · iexact HA
    isplitl [Hst]; · iexact Hst
    iexact Hv
  iintro HF
  iapply Hk
  isplitl [HF]; · iexact HF
  iexact HX

/-- The first loop. -/
theorem wp_sending :
    iprop(ctx m K ∗ ow c (OR c 0) ∗ flightX m c 0 (dv c 1) ∗ flightX m c 1 (dv c 2) ∗ (bigSep Finset.univ fun r : Fin 7 => sendPre (F := F) c r)
        ∗ (hasX m c (dv c 3) ∗ hasX m c (dv c 4) ∗ hasX m c (dv c 5) ∗ hasX m c (dv c 6) ∗ hasX m c (dv c 7) ∗ hasX m c c)
        ∗ some' (F := F) c (x8rows c))
      ⊢ iprop((iprop(ow c 0 ∗ restX (F := F) c 0 ∗ restX (F := F) c 1 ∗ (bigSep Finset.univ fun r : Fin 7 => sendPost (F := F) c r)
          ∗ (hasX m c (dv c 1) ∗ hasX m c (dv c 2) ∗ hasX m c (dv c 3) ∗ hasX m c (dv c 4) ∗ hasX m c (dv c 5) ∗ hasX m c (dv c 6) ∗ hasX m c (dv c 7) ∗ hasX m c c)
          ∗ own c (x8rows c) (x8v m c c)) -∗ run c k Q) -∗ run c (sending c k) Q) := by
  unfold sending
  rw [sep7, sep7]
  iintro ⟨#HC, HO, HF0, HF1, ⟨H0, H1, H2, H3, H4, H5, H6⟩, ⟨HX3, HX4, HX5, HX6, HX7, HX8⟩, H8⟩ Hk
  iapply (wp_stepX m K 0 0 rfl 0 (dv c 1) (dv c 3) 0 1 rfl rfl rfl rfl rfl _ (dev9_eq c)) $$ [HO HF0 H0 HX3]
  · isplitr; · iexact HC
    isplitl [HO]; · iexact HO
    isplitl [HF0]; · iexact HF0
    isplitl [H0]; · iexact H0
    iexact HX3
  iintro ⟨HO, H0, HF0, HX1⟩
  iapply (wp_stepX m K 1 1 rfl 1 (dv c 2) (dv c 4) 1 2 rfl rfl rfl rfl rfl _ (dev10_eq c)) $$ [HO HF1 H1 HX4]
  · isplitr; · iexact HC
    isplitl [HO]; · iexact HO
    isplitl [HF1]; · iexact HF1
    isplitl [H1]; · iexact H1
    iexact HX4
  iintro ⟨HO, H1, HF1, HX2⟩
  iapply (wp_stepX m K 2 2 rfl 0 (dv c 3) (dv c 5) 2 3 rfl rfl rfl rfl rfl _ (dev11_eq c)) $$ [HO HF0 H2 HX5]
  · isplitr; · iexact HC
    isplitl [HO]; · iexact HO
    isplitl [HF0]; · iexact HF0
    isplitl [H2]; · iexact H2
    iexact HX5
  iintro ⟨HO, H2, HF0, HX3⟩
  iapply (wp_stepX m K 3 3 rfl 1 (dv c 4) (dv c 6) 3 4 rfl rfl rfl rfl rfl _ (dev12_eq c)) $$ [HO HF1 H3 HX6]
  · isplitr; · iexact HC
    isplitl [HO]; · iexact HO
    isplitl [HF1]; · iexact HF1
    isplitl [H3]; · iexact H3
    iexact HX6
  iintro ⟨HO, H3, HF1, HX4⟩
  iapply (wp_stepX m K 4 4 rfl 0 (dv c 5) (dv c 7) 4 5 rfl rfl rfl rfl rfl _ (dev13_eq c)) $$ [HO HF0 H4 HX7]
  · isplitr; · iexact HC
    isplitl [HO]; · iexact HO
    isplitl [HF0]; · iexact HF0
    isplitl [H4]; · iexact H4
    iexact HX7
  iintro ⟨HO, H4, HF0, HX5⟩
  iapply (wp_stepX m K 5 5 rfl 1 (dv c 6) c 5 6 rfl rfl (dv_eight c) rfl rfl _ (dev14_eq c)) $$ [HO HF1 H5 HX8]
  · isplitr; · iexact HC
    isplitl [HO]; · iexact HO
    isplitl [HF1]; · iexact HF1
    isplitl [H5]; · iexact H5
    iexact HX8
  iintro ⟨HO, H5, HF1, HX6⟩
  iapply (wp_roundSend m K 6 0 (dv c 7) 6 7 rfl rfl rfl rfl _ (dev15_eq c) (mid := fun p => p) (A := iprop(emp)) (B := iprop(restX (F := F) c 0 ∗ hasX m c (dv c 7)))
    (fun p => by iintro ⟨-, HA⟩ Hk; iapply Hk; iexact HA)) $$ [HO HF0 H6]
  · isplitr; · iexact HC
    isplitl [HO]; · iexact HO
    isplitl [HF0]; · iexact HF0
    isplitl [H6]; · iexact H6
    iempintro
  iintro ⟨HO, H6, Hr0, HX7⟩
  have h8 := wp_roundX (Q := Q) (k := k) (c := c) m K 7 7
  rw [show dv c ((7 : Fin 8).val + 1) = c from dv_eight c, OR_end] at h8
  rw [OR_end]
  iapply h8 $$ [HO HF1 H8]
  · isplitr; · iexact HC
    isplitl [HO]; · iexact HO
    isplitl [HF1]; · iexact HF1
    iexact H8
  iintro ⟨HO, Hv, Hst, HX8, H8⟩
  iapply Hk
  isplitl [HO]; · iexact HO
  isplitl [Hr0]; · iexact Hr0
  isplitl [Hst Hv]
  · unfold restX
    isplitl [Hst]; · iexact Hst
    iexact Hv
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitr [H8]
  · isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    unfold hasX; iexact HX8
  iexact H8

end Cert.KernelIdeal.Gemm

end
-- ==== Proof.Products.lean ====
/-
  The second half of the body: the products, in the order the kernel takes them, and waiting until the copies
  have left.
-/
module

public import proofs.«01_k».proof.Proof.Stages

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Cell → ℕ)
variable {c : Dev nD} {Q : PUnit.{1} → sProp (MT nD τ sig Unit (Elt F) ℕ UU ℕ)} {k : Body F}

/-- The device's own product, and the scale. -/
theorem wp_ownProduct {kk : FVec F S512x2048 .f32 → F .f32 → Body F} :
    iprop(ctx m K ∗ ow c 0 ∗ flightW m c 0 c ∗ placeW (F := F) c c ∗ hasW m c (dv c 7) ∗ restW (F := F) c 1 ∗ own c (x8rows c) (x8v m c c) ∗ scales m c)
      ⊢ iprop((iprop(ow c 0 ∗ restW (F := F) c 0 ∗ hasW m c c ∗ roundedW m c c ∗ flightW m c 1 (dv c 7) ∗ own c (x8rows c) (x8v m c c) ∗ scales m c)
            -∗ run c (kk (accv m c 0) (scalev m c)) Q)
          -∗ run c (ownProduct c (Memref.whole cc0_stg0_0) (Memref.whole cc0_stg1_0) kk) Q) := by
  unfold ownProduct
  iintro ⟨#HC, HO, HF, HP, HW, HR, H8, HS⟩ Hk
  iapply (wp_roundW m K c 0 0 ⟨7, (OR_end c).symm⟩ (off8_eq c)) $$ [HO HF HP]
  · isplitr; · iexact HC
    isplitl [HO]; · iexact HO
    isplitl [HF]; · iexact HF
    unfold placeW; iexact HP
  iintro ⟨HO, Hv, Hst, HW0, Hw8⟩
  unfold restW hasW
  iapply (wp_startW m (dv c 7) 1 (wsrc_eq c 0)) $$ [HW HR]
  · isplitl [HW]; · iexact HW
    iexact HR
  iintro HF
  iapply (wp_readOwn m) $$ [H8 Hw8]
  · isplitl [H8]; · iexact H8
    iexact Hw8
  iintro ⟨H8, Hw8⟩
  unfold scales
  iapply (wp_readScale m) $$ HS
  iintro HS
  iapply Hk
  isplitl [HO]; · iexact HO
  isplitl [Hst Hv]
  · isplitl [Hst]; · iexact Hst
    iexact Hv
  isplitl [HW0]; · iexact HW0
  isplitl [Hw8]; · unfold roundedW; iexact Hw8
  isplitl [HF]; · iexact HF
  isplitl [H8]; · iexact H8
  iexact HS

/-- Taking the weights and the block of product `j`. -/
theorem wp_takeBoth (j : Fin 7) (t : Fin 2) (d : Dev nD) (ht : par (j.val + 1) = t) (hd : dv c (7 - j.val) = d) :
    iprop(ctx m K ∗ ow c 0 ∗ flightW m c t d ∗ placeW (F := F) c d ∗ recvPre (F := F) c j)
      ⊢ iprop((iprop(ow c 0 ∗ restW (F := F) c t ∗ hasW m c d ∗ roundedW m c d ∗ recvPost m c j) -∗ run c k Q) -∗ run c (stepW c j (recvX c j k)) Q) := by
  subst ht hd
  unfold stepW recvPre recvPost
  iintro ⟨#HC, HO, HF, HP, Hcr, Hat⟩ Hk
  iapply (wp_roundW m K (dv c (7 - j.val)) (par (j.val + 1)) 0 ⟨7, (OR_end c).symm⟩ (off11_eq c j)) $$ [HO HF HP]
  · isplitr; · iexact HC
    isplitl [HO]; · iexact HO
    isplitl [HF]; · iexact HF
    unfold placeW; iexact HP
  iintro ⟨HO, Hv, Hst, HW0, Hw8⟩
  iapply (wp_recvX m K j) $$ [HO Hcr Hat]
  · isplitr; · iexact HC
    isplitl [HO]; · iexact HO
    isplitl [Hcr]; · iexact Hcr
    iexact Hat
  iintro ⟨HO, Hat, Hb⟩
  iapply Hk
  isplitl [HO]; · iexact HO
  isplitl [Hst Hv]
  · unfold restW
    isplitl [Hst]; · iexact Hst
    iexact Hv
  isplitl [HW0]; · unfold hasW; iexact HW0
  isplitl [Hw8]; · unfold roundedW; iexact Hw8
  isplitl [Hat]; · iexact Hat
  iexact Hb

/-- Product `j` of the second loop. -/
theorem wp_stepJ (j : Fin 6) (j7 : Fin 7) (h7 : j.castLE (by decide) = j7) (t t' : Fin 2) (d d' : Dev nD) (n n' : ℕ) (ht : par j.val = t) (ht' : par (j.val + 1) = t')
    (hd : dv c (7 - j.val) = d) (hd' : dv c (7 - (j.val + 1)) = d') (hn : j.val = n) (hn' : n + 1 = n') {kk : FVec F S512x2048 .f32 → Body F} :
    iprop(ctx m K ∗ ow c 0 ∗ hasW m c d' ∗ restW (F := F) c t ∗ flightW m c t' d ∗ placeW (F := F) c d ∗ recvPre (F := F) c j7)
      ⊢ iprop((iprop(ow c 0 ∗ flightW m c t d' ∗ restW (F := F) c t' ∗ hasW m c d ∗ roundedW m c d ∗ recvPost m c j7) -∗ run c (kk (accv m c n')) Q)
          -∗ run c (stepJ c j (accv m c n) kk) Q) := by
  subst h7 ht ht' hd hd' hn hn'
  unfold stepJ
  iintro ⟨#HC, HO, HW, HR, HF, HP, HV⟩ Hk
  iapply (wp_startW m (dv c (7 - (j.val + 1))) (par j.val) (wsrc_eq c _)) $$ [HW HR]
  · unfold hasW restW
    isplitl [HW]; · iexact HW
    iexact HR
  iintro HF'
  iapply (wp_takeBoth m K _ (par (j.val + 1)) (dv c (7 - j.val)) rfl rfl) $$ [HO HF HP HV]
  · isplitr; · iexact HC
    isplitl [HO]; · iexact HO
    isplitl [HF]; · iexact HF
    isplitl [HP]; · iexact HP
    iexact HV
  unfold roundedW recvPost
  iintro ⟨HO, HR, HW, Hw8, Hat, Hb⟩
  iapply (wp_addProduct m _) $$ [Hb Hw8]
  · isplitl [Hb]; · iexact Hb
    iexact Hw8
  iintro ⟨Hb, Hw8⟩
  iapply Hk
  isplitl [HO]; · iexact HO
  isplitl [HF']; · iexact HF'
  isplitl [HR]; · iexact HR
  isplitl [HW]; · iexact HW
  isplitl [Hw8]; · iexact Hw8
  isplitl [Hat]; · iexact Hat
  iexact Hb

/-- The second loop. -/
theorem wp_products :
    iprop(ctx m K ∗ ow c 0 ∗ restW (F := F) c 0 ∗ flightW m c 1 (dv c 7)
        ∗ (hasW m c (dv c 6) ∗ hasW m c (dv c 5) ∗ hasW m c (dv c 4) ∗ hasW m c (dv c 3) ∗ hasW m c (dv c 2) ∗ hasW m c (dv c 1))
        ∗ (bigSep Finset.univ fun j : Fin 7 => placeW (F := F) c (dv c (7 - j.val))) ∗ (bigSep Finset.univ fun j : Fin 7 => recvPre (F := F) c j)
        ∗ (bigSep Finset.univ fun t : Fin 2 => halfPre (F := F) c t))
      ⊢ iprop((iprop(ow c 0 ∗ restW (F := F) c 0 ∗ restW (F := F) c 1
          ∗ (bigSep Finset.univ fun j : Fin 7 => hasW m c (dv c (7 - j.val)))
          ∗ (bigSep Finset.univ fun j : Fin 7 => roundedW m c (dv c (7 - j.val))) ∗ (bigSep Finset.univ fun j : Fin 7 => recvPost m c j)
          ∗ (bigSep Finset.univ fun t : Fin 2 => halfPost m c t)) -∗ run c k Q) -∗ run c (products c (accv m c 0) (scalev m c) k) Q) := by
  unfold products
  rw [sep7, sep7, sep7, sep7, sep7]
  iintro ⟨#HC, HO, HR0, HF1, ⟨HW6, HW5, HW4, HW3, HW2, HW1⟩, ⟨HP7, HP6, HP5, HP4, HP3, HP2, HP1⟩, ⟨HV0, HV1, HV2, HV3, HV4, HV5, HV6⟩, HH⟩ Hk
  iapply (wp_stepJ m K 0 0 rfl 0 1 (dv c 7) (dv c 6) 0 1 rfl rfl rfl rfl rfl rfl) $$ [HO HW6 HR0 HF1 HP7 HV0]
  · isplitr; · iexact HC
    isplitl [HO]; · iexact HO
    isplitl [HW6]; · iexact HW6
    isplitl [HR0]; · iexact HR0
    isplitl [HF1]; · iexact HF1
    isplitl [HP7]; · iexact HP7
    iexact HV0
  iintro ⟨HO, HF0, HR1, HW7, HP7, HV0⟩
  iapply (wp_stepJ m K 1 1 rfl 1 0 (dv c 6) (dv c 5) 1 2 rfl rfl rfl rfl rfl rfl) $$ [HO HW5 HR1 HF0 HP6 HV1]
  · isplitr; · iexact HC
    isplitl [HO]; · iexact HO
    isplitl [HW5]; · iexact HW5
    isplitl [HR1]; · iexact HR1
    isplitl [HF0]; · iexact HF0
    isplitl [HP6]; · iexact HP6
    iexact HV1
  iintro ⟨HO, HF1, HR0, HW6, HP6, HV1⟩
  iapply (wp_stepJ m K 2 2 rfl 0 1 (dv c 5) (dv c 4) 2 3 rfl rfl rfl rfl rfl rfl) $$ [HO HW4 HR0 HF1 HP5 HV2]
  · isplitr; · iexact HC
    isplitl [HO]; · iexact HO
    isplitl [HW4]; · iexact HW4
    isplitl [HR0]; · iexact HR0
    isplitl [HF1]; · iexact HF1
    isplitl [HP5]; · iexact HP5
    iexact HV2
  iintro ⟨HO, HF0, HR1, HW5, HP5, HV2⟩
  iapply (wp_stepJ m K 3 3 rfl 1 0 (dv c 4) (dv c 3) 3 4 rfl rfl rfl rfl rfl rfl) $$ [HO HW3 HR1 HF0 HP4 HV3]
  · isplitr; · iexact HC
    isplitl [HO]; · iexact HO
    isplitl [HW3]; · iexact HW3
    isplitl [HR1]; · iexact HR1
    isplitl [HF0]; · iexact HF0
    isplitl [HP4]; · iexact HP4
    iexact HV3
  iintro ⟨HO, HF1, HR0, HW4, HP4, HV3⟩
  iapply (wp_stepJ m K 4 4 rfl 0 1 (dv c 3) (dv c 2) 4 5 rfl rfl rfl rfl rfl rfl) $$ [HO HW2 HR0 HF1 HP3 HV4]
  · isplitr; · iexact HC
    isplitl [HO]; · iexact HO
    isplitl [HW2]; · iexact HW2
    isplitl [HR0]; · iexact HR0
    isplitl [HF1]; · iexact HF1
    isplitl [HP3]; · iexact HP3
    iexact HV4
  iintro ⟨HO, HF0, HR1, HW3, HP3, HV4⟩
  iapply (wp_stepJ m K 5 5 rfl 1 0 (dv c 2) (dv c 1) 5 6 rfl rfl rfl rfl rfl rfl) $$ [HO HW1 HR1 HF0 HP2 HV5]
  · isplitr; · iexact HC
    isplitl [HO]; · iexact HO
    isplitl [HW1]; · iexact HW1
    isplitl [HR1]; · iexact HR1
    isplitl [HF0]; · iexact HF0
    isplitl [HP2]; · iexact HP2
    iexact HV5
  iintro ⟨HO, HF1, HR0, HW2, HP2, HV5⟩
  iapply (wp_takeBoth m K 6 1 (dv c 1) rfl rfl) $$ [HO HF1 HP1 HV6]
  · isplitr; · iexact HC
    isplitl [HO]; · iexact HO
    isplitl [HF1]; · iexact HF1
    isplitl [HP1]; · iexact HP1
    iexact HV6
  unfold roundedW recvPost
  iintro ⟨HO, HR1, HW1, HP1, Hat, Hb⟩
  iapply (wp_lastProduct m K) $$ [HO Hb HP1 HH]
  · isplitr; · iexact HC
    isplitl [HO]; · iexact HO
    isplitl [Hb]; · iexact Hb
    isplitl [HP1]; · iexact HP1
    iexact HH
  iintro ⟨HO, Hb, HP1, HH⟩
  iapply Hk
  isplitl [HO]; · iexact HO
  isplitl [HR0]; · iexact HR0
  isplitl [HR1]; · iexact HR1
  isplitl [HW7 HW6 HW5 HW4 HW3 HW2 HW1]
  · isplitl [HW7]; · iexact HW7
    isplitl [HW6]; · iexact HW6
    isplitl [HW5]; · iexact HW5
    isplitl [HW4]; · iexact HW4
    isplitl [HW3]; · iexact HW3
    isplitl [HW2]; · iexact HW2
    iexact HW1
  isplitl [HP7 HP6 HP5 HP4 HP3 HP2 HP1]
  · isplitl [HP7]; · iexact HP7
    isplitl [HP6]; · iexact HP6
    isplitl [HP5]; · iexact HP5
    isplitl [HP4]; · iexact HP4
    isplitl [HP3]; · iexact HP3
    isplitl [HP2]; · iexact HP2
    iexact HP1
  isplitr [HH]
  · isplitl [HV0]; · iexact HV0
    isplitl [HV1]; · iexact HV1
    isplitl [HV2]; · iexact HV2
    isplitl [HV3]; · iexact HV3
    isplitl [HV4]; · iexact HV4
    isplitl [HV5]; · iexact HV5
    isplitl [Hat]; · iexact Hat
    iexact Hb
  iexact HH

/-- One wait of the closing. -/
theorem wp_leave (r : Fin 7) :
    iprop(ctx m K ∗ ow c 0 ∗ leavePre (F := F) c r) ⊢ iprop((iprop(ow c 0 ∗ leavePost m c r) -∗ run c k Q) -∗ run c (waitSend c r k) Q) := by
  unfold leavePre leavePost
  exact wp_waitSend m K r

/-- The closing. -/
theorem wp_closing :
    iprop(ctx m K ∗ ow c 0 ∗ (bigSep Finset.univ fun r : Fin 7 => leavePre (F := F) c r))
      ⊢ iprop((iprop(ow c 0 ∗ (bigSep Finset.univ fun r : Fin 7 => leavePost m c r)) -∗ run c k Q) -∗ run c (closing c k) Q) := by
  unfold closing
  rw [sep7, sep7]
  iintro ⟨#HC, HO, H0, H1, H2, H3, H4, H5, H6⟩ Hk
  iapply (wp_leave m K 0) $$ [HO H0]
  · isplitr; · iexact HC
    isplitl [HO]; · iexact HO
    iexact H0
  iintro ⟨HO, H0⟩
  iapply (wp_leave m K 1) $$ [HO H1]
  · isplitr; · iexact HC
    isplitl [HO]; · iexact HO
    iexact H1
  iintro ⟨HO, H1⟩
  iapply (wp_leave m K 2) $$ [HO H2]
  · isplitr; · iexact HC
    isplitl [HO]; · iexact HO
    iexact H2
  iintro ⟨HO, H2⟩
  iapply (wp_leave m K 3) $$ [HO H3]
  · isplitr; · iexact HC
    isplitl [HO]; · iexact HO
    iexact H3
  iintro ⟨HO, H3⟩
  iapply (wp_leave m K 4) $$ [HO H4]
  · isplitr; · iexact HC
    isplitl [HO]; · iexact HO
    iexact H4
  iintro ⟨HO, H4⟩
  iapply (wp_leave m K 5) $$ [HO H5]
  · isplitr; · iexact HC
    isplitl [HO]; · iexact HO
    iexact H5
  iintro ⟨HO, H5⟩
  iapply (wp_leave m K 6) $$ [HO H6]
  · isplitr; · iexact HC
    isplitl [HO]; · iexact HO
    iexact H6
  iintro ⟨HO, H6⟩
  iapply Hk
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

end Cert.KernelIdeal.Gemm

end
-- ==== Proof.Body.lean ====
/-
  The whole body: what a device holds at its start, what it holds at its end, and that its stages lead from
  one to the other.
-/
module

public import proofs.«01_k».proof.Proof.Products

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Cell → ℕ)
variable {c : Dev nD} {Q : PUnit.{1} → sProp (MT nD τ sig Unit (Elt F) ℕ UU ℕ)} {k : Body F}

/-! ## The devices as the seven others and oneself -/

omit [FloatOps F] in
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- Eight are the first seven and the last. -/
theorem sep_last (Φ : Fin 8 → sProp 𝕄) : bigSep Finset.univ Φ ⊣⊢ iprop((bigSep Finset.univ fun r : Fin 7 => Φ r.castSucc) ∗ Φ 7) := by
  rw [sep8, show (bigSep Finset.univ fun r : Fin 7 => Φ r.castSucc) = iprop(Φ 0 ∗ Φ 1 ∗ Φ 2 ∗ Φ 3 ∗ Φ 4 ∗ Φ 5 ∗ Φ 6) from sep7 _]
  constructor
  · iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  · iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

omit [FloatOps F] in
/-- The devices are the seven after `c`, and `c`; -/
theorem sep_around (c : Dev nD) (Φ : Dev nD → sProp 𝕄) : bigSep Finset.univ Φ ⊣⊢ iprop((bigSep Finset.univ fun r : Fin 7 => Φ (dv c (r.val + 1))) ∗ Φ c) := by
  rw [bigSep_univ_equiv (Equiv.ofBijective _ (dv_succ_bijective c)) Φ]
  have h := sep_last (F := F) fun i => Φ (dv c (i.val + 1))
  rw [show dv c ((7 : Fin 8).val + 1) = c from dv_eight c] at h
  exact h

omit [FloatOps F] in
/-- and the seven before `c`, and `c`. -/
theorem sep_back (c : Dev nD) (Φ : Dev nD → sProp 𝕄) : bigSep Finset.univ Φ ⊣⊢ iprop((bigSep Finset.univ fun j : Fin 7 => Φ (dv c (7 - j.val))) ∗ Φ c) := by
  have hb : Function.Bijective fun i : Fin 8 => dv c (7 - i.val) := by revert c; decide
  rw [bigSep_univ_equiv (Equiv.ofBijective _ hb) Φ]
  have h := sep_last (F := F) fun i => Φ (dv c (7 - i.val))
  rw [show dv c (7 - (7 : Fin 8).val) = c from dv_zero c] at h
  exact h

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The twenty-four counters of a device: the words, the blocks, the leavings, and three that nobody uses. -/
theorem sep_cells (c : Dev nD) (Φ : Fin 3 × Fin 8 → sProp 𝕄) :
    bigSep Finset.univ Φ ⊣⊢ iprop(((bigSep Finset.univ fun r : Fin 7 => Φ (0, dv c (r.val + 1))) ∗ Φ (0, c))
      ∗ ((bigSep Finset.univ fun j : Fin 7 => Φ (1, dv c (7 - j.val))) ∗ Φ (1, c)) ∗ ((bigSep Finset.univ fun r : Fin 7 => Φ (2, r.castSucc)) ∗ Φ (2, 7))) := by
  rw [bigSep_univ_prod, bigSep_three]
  have h0 := sep_around (F := F) c fun e => Φ (0, e)
  have h1 := sep_back (F := F) c fun e => Φ (1, e)
  have h2 := sep_last (F := F) fun e => Φ (2, e)
  constructor
  · iintro ⟨H0, H1, H2⟩
    isplitl [H0]; · iapply h0.1 $$ H0
    isplitl [H1]; · iapply h1.1 $$ H1
    iapply h2.1 $$ H2
  · iintro ⟨H0, H1, H2⟩
    isplitl [H0]; · iapply h0.2 $$ H0
    isplitl [H1]; · iapply h1.2 $$ H1
    iapply h2.2 $$ H2

/-! ## What a device holds -/

/-- The rights and claims of a device: to put on the others' counters and its own, and to take. -/
def ghost (c : Dev nD) : sProp 𝕄 :=
  iprop((bigSep Finset.univ fun r : Fin 7 => dutyTok ER (kcell (dv c (r.val + 1), 0, c)) 0 ())
    ∗ (bigSep Finset.univ fun r : Fin 7 => dutyTok ER (kcell (dv c (r.val + 1), 1, c)) 0 ())
    ∗ (bigSep Finset.univ fun r : Fin 7 => dutyTok ER (kcell (c, 2, r.castSucc)) 0 ())
    ∗ (bigSep Finset.univ fun r : Fin 7 => cred (tallyAt (kcell (c, 0, dv c (r.val + 1))) () 1))
    ∗ (bigSep Finset.univ fun j : Fin 7 => cred (tallyAt (kcell (c, 1, dv c (7 - j.val))) () N))
    ∗ (bigSep Finset.univ fun p : Fin 3 × Fin 8 => atPos ER (kcell (c, p)) 0 ∅ 0))

/-- The memory of a device at the body's start. -/
def placesIn (c : Dev nD) : sProp 𝕄 :=
  iprop((bigSep Finset.univ fun d => hasX m c d) ∗ (bigSep Finset.univ fun d => hasW m c d)
    ∗ (bigSep Finset.univ fun d => some' (F := F) c (x8rows d)) ∗ (bigSep Finset.univ fun d => some' (F := F) c (bufslot d))
    ∗ (bigSep Finset.univ fun d => some' (F := F) c (w8slot d))
    ∗ (bigSep Finset.univ fun t => restX (F := F) c t) ∗ (bigSep Finset.univ fun t => restW (F := F) c t) ∗ (bigSep Finset.univ fun t => halfPre (F := F) c t) ∗ scales m c)

/-- The memory of a device at the body's end: as before, but for the result. -/
def placesOut (c : Dev nD) : sProp 𝕄 :=
  iprop((bigSep Finset.univ fun d => hasX m c d) ∗ (bigSep Finset.univ fun d => hasW m c d)
    ∗ (bigSep Finset.univ fun d => some' (F := F) c (x8rows d)) ∗ (bigSep Finset.univ fun d => some' (F := F) c (bufslot d))
    ∗ (bigSep Finset.univ fun d => some' (F := F) c (w8slot d))
    ∗ (bigSep Finset.univ fun t => restX (F := F) c t) ∗ (bigSep Finset.univ fun t => restW (F := F) c t) ∗ (bigSep Finset.univ fun t => halfPost m c t) ∗ scales m c)

/-! ## The counters at the end -/

theorem close_used (x : Cell) : iprop(ctx m K ∗ atPos ER (kcell x) (0 + 1) ∅ 0) ⊢ |={(Set.univ : Set ℕ)}=> semVal (kcell x) 0 := by
  iintro ⟨#HC, Hat⟩
  imod (Rounds.cell_close ER (rd m) (Set.mem_univ (K x)) (fun h => h) (R := 0 + 1) (duties_later m x)) $$ [Hat] with Hz
  · isplitr
    · iapply (ctx_inv m K x) $$ HC
    iexact Hat
  imodintro; iexact Hz

theorem close_unused (x : Cell) (h : ¬ used x) : iprop(ctx m K ∗ atPos ER (kcell x) 0 ∅ 0) ⊢ |={(Set.univ : Set ℕ)}=> semVal (kcell x) 0 := by
  iintro ⟨#HC, Hat⟩
  imod (Rounds.cell_close ER (rd m) (Set.mem_univ (K x)) (fun h => h) (R := 0) (fun r _ => duties_unused m x h r)) $$ [Hat] with Hz
  · isplitr
    · iapply (ctx_inv m K x) $$ HC
    iexact Hat
  imodintro; iexact Hz

theorem close_seven (f : Fin 7 → Cell) :
    iprop(ctx m K ∗ bigSep Finset.univ fun r => atPos ER (kcell (f r)) (0 + 1) ∅ 0) ⊢ |={(Set.univ : Set ℕ)}=> bigSep Finset.univ fun r => semVal (kcell (f r)) 0 :=
  (bigSep_with_persistent fun r _ => close_used m K (f r)).trans (bigSep_fupd _ _)

/-- All of a device's counters end at zero. -/
theorem close_all (c : Dev nD) :
    iprop(ctx m K ∗ (bigSep Finset.univ fun r : Fin 7 => atPos ER (kcell (c, 0, dv c (r.val + 1))) (0 + 1) ∅ 0) ∗ atPos ER (kcell (c, 0, c)) 0 ∅ 0
        ∗ (bigSep Finset.univ fun j : Fin 7 => atPos ER (kcell (c, 1, dv c (7 - j.val))) (0 + 1) ∅ 0) ∗ atPos ER (kcell (c, 1, c)) 0 ∅ 0
        ∗ (bigSep Finset.univ fun r : Fin 7 => atPos ER (kcell (c, 2, r.castSucc)) (0 + 1) ∅ 0) ∗ atPos ER (kcell (c, 2, 7)) 0 ∅ 0)
      ⊢ |={(Set.univ : Set ℕ)}=> bigSep Finset.univ fun p : Fin 3 × Fin 8 => semVal (kcell (c, p)) 0 := by
  iintro ⟨#HC, H0, G0, H1, G1, H2, G2⟩
  imod (close_seven m K fun r => (c, 0, dv c (r.val + 1))) $$ [H0] with H0
  · isplitr; · iexact HC
    iexact H0
  imod (close_seven m K fun j => (c, 1, dv c (7 - j.val))) $$ [H1] with H1
  · isplitr; · iexact HC
    iexact H1
  imod (close_seven m K fun r => (c, 2, r.castSucc)) $$ [H2] with H2
  · isplitr; · iexact HC
    iexact H2
  imod (close_unused m K (c, 0, c) (by revert c; decide)) $$ [G0] with G0
  · isplitr; · iexact HC
    iexact G0
  imod (close_unused m K (c, 1, c) (by revert c; decide)) $$ [G1] with G1
  · isplitr; · iexact HC
    iexact G1
  imod (close_unused m K (c, 2, 7) (by revert c; decide)) $$ [G2] with G2
  · isplitr; · iexact HC
    iexact G2
  imodintro
  iapply (sep_cells c fun p => semVal (kcell (c, p)) 0).2
  isplitl [H0 G0]
  · isplitl [H0]; · iexact H0
    iexact G0
  isplitl [H1 G1]
  · isplitl [H1]; · iexact H1
    iexact G1
  isplitl [H2]; · iexact H2
  iexact G2

/-! ## Gathering what the steps take, and what they leave -/

omit [FloatOps F] in
theorem sigPre_of : iprop((bigSep Finset.univ fun r : Fin 7 => dutyTok ER (kcell (dv c (r.val + 1), 0, c)) 0 ()) ∗ (bigSep Finset.univ fun r : Fin 7 => some' (F := F) c (bufslot (dv c (r.val + 1)))))
    ⊢ bigSep Finset.univ fun r : Fin 7 => sigPre (F := F) c r := by
  rw [← bigSep_sep']
  refine bigSep_mono fun r _ => ?_
  show (_ : sProp 𝕄) ⊢ _
  unfold sigPre
  iintro ⟨Ht, Hb⟩
  isplitl [Ht]; · iexact Ht
  iapply (some_squeeze (c := c) (bufslot (dv c (r.val + 1))) squeezes_S1x512x512_S512x512 (by decide)) $$ Hb

omit [FloatOps F] in
theorem sendPre_of : iprop((bigSep Finset.univ fun r : Fin 7 => cred (tallyAt (kcell (c, 0, dv c (r.val + 1))) () 1)) ∗ (bigSep Finset.univ fun r : Fin 7 => atPos ER (kcell (c, 0, dv c (r.val + 1))) 0 ∅ 0)
      ∗ (bigSep Finset.univ fun r : Fin 7 => dutyTok ER (kcell (c, 2, r.castSucc)) 0 ()) ∗ (bigSep Finset.univ fun r : Fin 7 => dutyTok ER (kcell (dv c (r.val + 1), 1, c)) 0 ())
      ∗ (bigSep Finset.univ fun r : Fin 7 => some' (F := F) c (x8rows (dv c (r.val + 1)))))
    ⊢ bigSep Finset.univ fun r : Fin 7 => sendPre (F := F) c r := by
  unfold sendPre
  rw [bigSep_sep', bigSep_sep', bigSep_sep', bigSep_sep']

omit [FloatOps F] in
theorem sendPost_parts : (bigSep Finset.univ fun r : Fin 7 => sendPost (F := F) c r)
    ⊢ iprop((bigSep Finset.univ fun r : Fin 7 => cred (tallyAt (kcell (c, 2, r.castSucc)) () N)) ∗ (bigSep Finset.univ fun r : Fin 7 => atPos ER (kcell (c, 0, dv c (r.val + 1))) (0 + 1) ∅ 0)) := by
  unfold sendPost
  rw [bigSep_sep']

omit [FloatOps F] in
theorem recvPre_of : iprop((bigSep Finset.univ fun j : Fin 7 => cred (tallyAt (kcell (c, 1, dv c (7 - j.val))) () N)) ∗ (bigSep Finset.univ fun j : Fin 7 => atPos ER (kcell (c, 1, dv c (7 - j.val))) 0 ∅ 0))
    ⊢ bigSep Finset.univ fun j : Fin 7 => recvPre (F := F) c j := by
  unfold recvPre
  rw [bigSep_sep']

theorem recvPost_parts : (bigSep Finset.univ fun j : Fin 7 => recvPost m c j)
    ⊢ iprop((bigSep Finset.univ fun j : Fin 7 => atPos ER (kcell (c, 1, dv c (7 - j.val))) (0 + 1) ∅ 0) ∗ (bigSep Finset.univ fun j : Fin 7 => some' (F := F) c (bufslot (dv c (7 - j.val))))) := by
  rw [← bigSep_sep']
  refine bigSep_mono fun j _ => ?_
  show (_ : sProp 𝕄) ⊢ _
  unfold recvPost
  iintro ⟨Ha, Hb⟩
  isplitl [Ha]; · iexact Ha
  iapply (own_some (c := c) (bufslot (dv c (7 - j.val))) _) $$ Hb

omit [FloatOps F] in
theorem leavePre_of : iprop((bigSep Finset.univ fun r : Fin 7 => cred (tallyAt (kcell (c, 2, r.castSucc)) () N)) ∗ (bigSep Finset.univ fun r : Fin 7 => atPos ER (kcell (c, 2, r.castSucc)) 0 ∅ 0))
    ⊢ bigSep Finset.univ fun r : Fin 7 => leavePre (F := F) c r := by
  unfold leavePre
  rw [bigSep_sep']

theorem leavePost_parts : (bigSep Finset.univ fun r : Fin 7 => leavePost m c r)
    ⊢ iprop((bigSep Finset.univ fun r : Fin 7 => atPos ER (kcell (c, 2, r.castSucc)) (0 + 1) ∅ 0) ∗ (bigSep Finset.univ fun r : Fin 7 => some' (F := F) c (x8rows (dv c (r.val + 1))))) := by
  rw [← bigSep_sep']
  refine bigSep_mono fun r _ => ?_
  show (_ : sProp 𝕄) ⊢ _
  unfold leavePost
  iintro ⟨Ha, Hb⟩
  isplitl [Ha]; · iexact Ha
  iapply (own_some (c := c) (x8rows (dv c (r.val + 1))) _) $$ Hb

theorem rounded_some : (bigSep Finset.univ fun j : Fin 7 => roundedW m c (dv c (7 - j.val))) ⊢ bigSep Finset.univ fun j : Fin 7 => some' (F := F) c (w8slot (dv c (7 - j.val))) :=
  bigSep_mono fun j _ => own_some (c := c) (w8slot (dv c (7 - j.val))) _

/-! ## The body -/

/-- What the body leaves. -/
def bodyOut (c : Dev nD) : sProp 𝕄 :=
  iprop(ow c 0 ∗ semVal ((c : Thread nD τ), .reg barrierSem) 0 ∗ (bigSep Finset.univ fun p : Fin 3 × Fin 8 => semVal (kcell (c, p)) 0) ∗ placesOut m c)

/-- From what a device holds at the start, its stages run and leave the result and everything else as it was. -/
theorem wp_stages :
    iprop(ctx m K ∗ ow c (O₀ c) ∗ ghost (F := F) c ∗ semVal ((c : Thread nD τ), .reg barrierSem) 0 ∗ placesIn m c)
      ⊢ run c (stages (Memref.whole cc0_stg0_0) (Memref.whole cc0_stg1_0) c) (fun _ => bodyOut m c) := by
  unfold stages ghost placesIn
  rw [halves, halves]
  iintro ⟨#HC, HO, ⟨Ht0, Ht1, Ht2, Hc0, Hc1, Hat⟩, Hbar, HX, HW, H8, Hbuf, Hw8, ⟨HrX0, HrX1⟩, ⟨HrW0, HrW1⟩, HH, HS⟩
  ihave Hat := (sep_cells c fun p => atPos ER (kcell (c, p)) 0 ∅ 0).1 $$ Hat
  icases Hat with ⟨⟨Ha0, Hu0⟩, ⟨Ha1, Hu1⟩, Ha2, Hu2⟩
  ihave HX := (sep_around c fun d => hasX m c d).1 $$ HX
  icases HX with ⟨HX, HXc⟩
  ihave HX := (Entails.of_eq (sep7 (F := F) fun r => hasX m c (dv c (r.val + 1)))) $$ HX
  icases HX with ⟨HX1, HX2, HX3, HX4, HX5, HX6, HX7⟩
  ihave HW := (sep_back c fun d => hasW m c d).1 $$ HW
  icases HW with ⟨HW, HWc⟩
  ihave HW := (Entails.of_eq (sep7 (F := F) fun j => hasW m c (dv c (7 - j.val)))) $$ HW
  icases HW with ⟨HW7, HW6, HW5, HW4, HW3, HW2, HW1⟩
  ihave H8 := (sep_around c fun d => some' (F := F) c (x8rows d)).1 $$ H8
  icases H8 with ⟨H8, H8c⟩
  ihave Hbuf := (sep_around c fun d => some' (F := F) c (bufslot d)).1 $$ Hbuf
  icases Hbuf with ⟨Hbuf, Hbufc⟩
  ihave Hw8 := (sep_back c fun d => some' (F := F) c (w8slot d)).1 $$ Hw8
  icases Hw8 with ⟨Hw8, Hw8c⟩
  ihave Hsig := (sigPre_of (F := F) (c := c)) $$ [Ht0 Hbuf]
  · isplitl [Ht0]; · iexact Ht0
    iexact Hbuf
  ihave Hsend := (sendPre_of (F := F) (c := c)) $$ [Hc0 Ha0 Ht2 Ht1 H8]
  · isplitl [Hc0]; · iexact Hc0
    isplitl [Ha0]; · iexact Ha0
    isplitl [Ht2]; · iexact Ht2
    isplitl [Ht1]; · iexact Ht1
    iexact H8
  ihave Hrecv := (recvPre_of (F := F) (c := c)) $$ [Hc1 Ha1]
  · isplitl [Hc1]; · iexact Hc1
    iexact Ha1
  iapply (wp_opening m K) $$ [HO Hsig Hbar HWc HrW0 HX1 HrX0 HX2 HrX1]
  · isplitr; · iexact HC
    isplitl [HO]; · iexact HO
    isplitl [Hsig]; · iexact Hsig
    isplitl [Hbar]; · iexact Hbar
    isplitl [HWc]; · iexact HWc
    isplitl [HrW0]; · iexact HrW0
    isplitl [HX1]; · iexact HX1
    isplitl [HrX0]; · iexact HrX0
    isplitl [HX2]; · iexact HX2
    iexact HrX1
  iintro ⟨HO, Hbar, HFW, HF0, HF1⟩
  iapply (wp_sending m K) $$ [HO HF0 HF1 Hsend HX3 HX4 HX5 HX6 HX7 HXc H8c]
  · isplitr; · iexact HC
    isplitl [HO]; · iexact HO
    isplitl [HF0]; · iexact HF0
    isplitl [HF1]; · iexact HF1
    isplitl [Hsend]; · iexact Hsend
    isplitr [H8c]
    · isplitl [HX3]; · iexact HX3
      isplitl [HX4]; · iexact HX4
      isplitl [HX5]; · iexact HX5
      isplitl [HX6]; · iexact HX6
      isplitl [HX7]; · iexact HX7
      iexact HXc
    iexact H8c
  iintro ⟨HO, HrX0, HrX1, Hsend, ⟨HX1, HX2, HX3, HX4, HX5, HX6, HX7, HXc⟩, H8c⟩
  iapply (wp_ownProduct m K) $$ [HO HFW Hw8c HW7 HrW1 H8c HS]
  · isplitr; · iexact HC
    isplitl [HO]; · iexact HO
    isplitl [HFW]; · iexact HFW
    isplitl [Hw8c]; · unfold placeW; iexact Hw8c
    isplitl [HW7]; · iexact HW7
    isplitl [HrW1]; · iexact HrW1
    isplitl [H8c]; · iexact H8c
    iexact HS
  iintro ⟨HO, HrW0, HWc, Hw8c, HFW, H8c, HS⟩
  iapply (wp_products m K) $$ [HO HrW0 HFW HW6 HW5 HW4 HW3 HW2 HW1 Hw8 Hrecv HH]
  · isplitr; · iexact HC
    isplitl [HO]; · iexact HO
    isplitl [HrW0]; · iexact HrW0
    isplitl [HFW]; · iexact HFW
    isplitl [HW6 HW5 HW4 HW3 HW2 HW1]
    · isplitl [HW6]; · iexact HW6
      isplitl [HW5]; · iexact HW5
      isplitl [HW4]; · iexact HW4
      isplitl [HW3]; · iexact HW3
      isplitl [HW2]; · iexact HW2
      iexact HW1
    isplitl [Hw8]; · unfold placeW; iexact Hw8
    isplitl [Hrecv]; · iexact Hrecv
    iexact HH
  iintro ⟨HO, HrW0, HrW1, HW, Hw8, Hrecv, HH⟩
  ihave Hsend := (sendPost_parts (F := F) (c := c)) $$ Hsend
  icases Hsend with ⟨Hc2, Ha0⟩
  ihave Hleave := (leavePre_of (F := F) (c := c)) $$ [Hc2 Ha2]
  · isplitl [Hc2]; · iexact Hc2
    iexact Ha2
  iapply (wp_closing m K) $$ [HO Hleave]
  · isplitr; · iexact HC
    isplitl [HO]; · iexact HO
    iexact Hleave
  iintro ⟨HO, Hleave⟩
  ihave Hleave := (leavePost_parts m (c := c)) $$ Hleave
  icases Hleave with ⟨Ha2, H8⟩
  ihave Hrecv := (recvPost_parts m (c := c)) $$ Hrecv
  icases Hrecv with ⟨Ha1, Hbuf⟩
  ihave Hw8 := (rounded_some m (c := c)) $$ Hw8
  imod (close_all m K c) $$ [Ha0 Hu0 Ha1 Hu1 Ha2 Hu2] with Hz
  · isplitr; · iexact HC
    isplitl [Ha0]; · iexact Ha0
    isplitl [Hu0]; · iexact Hu0
    isplitl [Ha1]; · iexact Ha1
    isplitl [Hu1]; · iexact Hu1
    isplitl [Ha2]; · iexact Ha2
    iexact Hu2
  rw [wp_ret]; imodintro
  unfold bodyOut placesOut
  isplitl [HO]; · iexact HO
  isplitl [Hbar]; · iexact Hbar
  isplitl [Hz]; · iexact Hz
  isplitl [HX1 HX2 HX3 HX4 HX5 HX6 HX7 HXc]
  · iapply (sep_around c fun d => hasX m c d).2
    isplitr [HXc]
    · iapply (Entails.of_eq (sep7 (F := F) fun r => hasX m c (dv c (r.val + 1))).symm)
      isplitl [HX1]; · iexact HX1
      isplitl [HX2]; · iexact HX2
      isplitl [HX3]; · iexact HX3
      isplitl [HX4]; · iexact HX4
      isplitl [HX5]; · iexact HX5
      isplitl [HX6]; · iexact HX6
      iexact HX7
    iexact HXc
  isplitl [HW HWc]
  · iapply (sep_back c fun d => hasW m c d).2
    isplitl [HW]; · iexact HW
    iexact HWc
  isplitl [H8 H8c]
  · iapply (sep_around c fun d => some' (F := F) c (x8rows d)).2
    isplitl [H8]; · iexact H8
    iapply (own_some (c := c) (x8rows c) _) $$ H8c
  isplitl [Hbuf Hbufc]
  · iapply (sep_back c fun d => some' (F := F) c (bufslot d)).2
    isplitl [Hbuf]; · iexact Hbuf
    iexact Hbufc
  isplitl [Hw8 Hw8c]
  · iapply (sep_back c fun d => some' (F := F) c (w8slot d)).2
    isplitl [Hw8]; · iexact Hw8
    unfold roundedW; iapply (own_some (c := c) (w8slot c) _) $$ Hw8c
  isplitl [HrX0 HrX1]
  · rw [halves]
    isplitl [HrX0]; · iexact HrX0
    iexact HrX1
  isplitl [HrW0 HrW1]
  · rw [halves]
    isplitl [HrW0]; · iexact HrW0
    iexact HrW1
  isplitl [HH]; · iexact HH
  iexact HS

end Cert.KernelIdeal.Gemm

end
-- ==== Proof.Memory.lean ====
/-
  The memory of a device, from whole buffers to the blocks the body works on, and back.
-/
module

public import proofs.«01_k».proof.Proof.Body

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Cell → ℕ)
variable {c : Dev nD}

/-! ## Whole buffers -/

omit [FloatOps F] in
theorem own_whole_of (b : Ref sig .tc) (f : Buf (Elt F) ((c : Thread nD τ).loc b)) : (((c : Thread nD τ).loc b) ↦{fullShare} f) ⊢ own c (Memref.whole b) f := by
  have h := own_of_points (c := c) (Memref.whole b) (X := f) (f := f) (View.read_whole _ _)
  rwa [View.set_whole] at h

omit [FloatOps F] in
theorem whole_of_own (b : Ref sig .tc) (X : Buf (Elt F) ((c : Thread nD τ).loc b)) : own c (Memref.whole b) X ⊢ (((c : Thread nD τ).loc b) ↦{fullShare} X) := by
  unfold own owns
  simp only [Memref.view_whole, View.read_whole, View.set_whole]
  iintro ⟨%f, %hf, H⟩
  subst hf
  iexact H

omit [FloatOps F] in
theorem some_whole_of (b : Ref sig .tc) : iprop(∃ f : Buf (Elt F) ((c : Thread nD τ).loc b), ((c : Thread nD τ).loc b) ↦{fullShare} f) ⊢ some' (F := F) c (Memref.whole b) := by
  iintro ⟨%f, H⟩
  iexists f
  iapply (own_whole_of b f) $$ H

omit [FloatOps F] in
theorem whole_of_some (b : Ref sig .tc) : some' (F := F) c (Memref.whole b) ⊢ iprop(∃ f : Buf (Elt F) ((c : Thread nD τ).loc b), ((c : Thread nD τ).loc b) ↦{fullShare} f) := by
  iintro ⟨%X, H⟩
  iexists X
  iapply (whole_of_own b X) $$ H

/-! ## Buffers in blocks -/

theorem surj {n : ℕ} : ∀ v < n, ∃ i : Fin n, i.val = v := fun v h => ⟨⟨v, h⟩, rfl⟩

theorem rowsX_rest : ∀ (e : Fin 8) (a : Fin 2), a ≠ 0 → (![512 * e.val, 0] : Fin 2 → ℕ) a = 0 ∧ S512x512.size a = S4096x512.size a := by decide
theorem rowsW_rest : ∀ (e : Fin 8) (a : Fin 2), a ≠ 0 → (![512 * e.val, 0] : Fin 2 → ℕ) a = 0 ∧ S512x2048.size a = S4096x2048.size a := by decide
theorem slotB_rest : ∀ (e : Fin 8) (a : Fin 3), a ≠ 0 → (![e.val, 0, 0] : Fin 3 → ℕ) a = 0 ∧ S1x512x512.size a = S8x512x512.size a := by decide
theorem slot8_rest : ∀ (e : Fin 8) (a : Fin 3), a ≠ 0 → (![e.val, 0, 0] : Fin 3 → ℕ) a = 0 ∧ S1x512x2048.size a = S8x512x2048.size a := by decide
theorem slotX_rest : ∀ (t : Fin 2) (a : Fin 3), a ≠ 0 → (![t.val, 0, 0] : Fin 3 → ℕ) a = 0 ∧ S1x512x512.size a = S2x512x512.size a := by decide
theorem slotW_rest : ∀ (t : Fin 2) (a : Fin 3), a ≠ 0 → (![t.val, 0, 0] : Fin 3 → ℕ) a = 0 ∧ S1x512x2048.size a = S2x512x2048.size a := by decide
theorem slotO_rest : ∀ (t : Fin 2) (a : Fin 3), a ≠ 0 → (![t.val, 0, 0] : Fin 3 → ℕ) a = 0 ∧ S1x512x1024.size a = S2x512x1024.size a := by decide

/-- The x array in its row blocks. -/
theorem x_split : (((c : Thread nD τ).loc main_arg0) ↦{fullShare} m ((c : Thread nD τ).loc main_arg0)) ⊢ bigSep Finset.univ fun d => hasX m c d :=
  (own_whole_of main_arg0 _).trans (own_blocks (Memref.whole main_arg0) (0 : Fin 2) rowsX_inb (fun e => e.val) Fin.val_injective surj (fun _ => rfl) rfl (by decide) rowsX_rest _)
theorem x_join : (bigSep Finset.univ fun d => hasX m c d) ⊢ (((c : Thread nD τ).loc main_arg0) ↦{fullShare} m ((c : Thread nD τ).loc main_arg0)) :=
  (own_of_blocks (Memref.whole main_arg0) (0 : Fin 2) rowsX_inb (fun e => e.val) Fin.val_injective surj (fun _ => rfl) rfl (by decide) rowsX_rest
    (m ((c : Thread nD τ).loc main_arg0))).trans (whole_of_own main_arg0 _)

/-- The weights in their row blocks. -/
theorem w_split : (((c : Thread nD τ).loc main_arg1) ↦{fullShare} m ((c : Thread nD τ).loc main_arg1)) ⊢ bigSep Finset.univ fun d => hasW m c d :=
  (own_whole_of main_arg1 _).trans (own_blocks (Memref.whole main_arg1) (0 : Fin 2) rowsW_inb (fun e => e.val) Fin.val_injective surj (fun _ => rfl) rfl (by decide) rowsW_rest _)
theorem w_join : (bigSep Finset.univ fun d => hasW m c d) ⊢ (((c : Thread nD τ).loc main_arg1) ↦{fullShare} m ((c : Thread nD τ).loc main_arg1)) :=
  (own_of_blocks (Memref.whole main_arg1) (0 : Fin 2) rowsW_inb (fun e => e.val) Fin.val_injective surj (fun _ => rfl) rfl (by decide) rowsW_rest
    (m ((c : Thread nD τ).loc main_arg1))).trans (whole_of_own main_arg1 _)

/-- The result from its two halves. -/
theorem res_split : (((c : Thread nD τ).loc main_v1) ↦{fullShare} m ((c : Thread nD τ).loc main_v1)) ⊢ bigSep Finset.univ fun t => some' (F := F) c (ohalf t) :=
  ((own_whole_of main_v1 _).trans (own_some _ _)).trans
    (some_blocks (Memref.whole main_v1) (1 : Fin 2) cols_inb (fun t => t.val) Fin.val_injective surj (fun _ => rfl) rfl (by decide) cols_rest)
theorem res_join : (bigSep Finset.univ fun t => own c (ohalf t) (outq m c t)) ⊢ (((c : Thread nD τ).loc main_v1) ↦{fullShare} resv m c) := by
  have h := (own_of_blocks (c := c) (Memref.whole main_v1) (1 : Fin 2) cols_inb (fun t => t.val) Fin.val_injective surj (fun _ => rfl) rfl (by decide) cols_rest (resv m c)).trans
    (whole_of_own main_v1 (resv m c))
  exact (bigSep_mono fun t _ => Entails.of_eq (congrArg (own c (ohalf t)) (resv_half m c t).symm)).trans h

omit [FloatOps F] in
/-- The scratch buffers in their blocks. -/
theorem s0_split : some' (F := F) c (Memref.whole cc0_scratch0) ⊢ bigSep Finset.univ fun d => some' (F := F) c (x8rows d) :=
  some_blocks (Memref.whole cc0_scratch0) (0 : Fin 2) rowsX_inb (fun e => e.val) Fin.val_injective surj (fun _ => rfl) rfl (by decide) rowsX_rest
theorem s0_join : (bigSep Finset.univ fun d => some' (F := F) c (x8rows d)) ⊢ some' (F := F) c (Memref.whole cc0_scratch0) :=
  some_of_blocks (Memref.whole cc0_scratch0) (0 : Fin 2) rowsX_inb (fun e => e.val) Fin.val_injective surj (fun _ => rfl) rfl (by decide) rowsX_rest
omit [FloatOps F] in
theorem s1_split : some' (F := F) c (Memref.whole cc0_scratch1) ⊢ bigSep Finset.univ fun d => some' (F := F) c (bufslot d) :=
  some_blocks (Memref.whole cc0_scratch1) (0 : Fin 3) slotB_inb (fun e => e.val) Fin.val_injective surj (fun e => (Nat.one_mul e.val).symm) rfl (by decide) slotB_rest
theorem s1_join : (bigSep Finset.univ fun d => some' (F := F) c (bufslot d)) ⊢ some' (F := F) c (Memref.whole cc0_scratch1) :=
  some_of_blocks (Memref.whole cc0_scratch1) (0 : Fin 3) slotB_inb (fun e => e.val) Fin.val_injective surj (fun e => (Nat.one_mul e.val).symm) rfl (by decide) slotB_rest
omit [FloatOps F] in
theorem s4_split : some' (F := F) c (Memref.whole cc0_scratch4) ⊢ bigSep Finset.univ fun d => some' (F := F) c (w8slot d) :=
  some_blocks (Memref.whole cc0_scratch4) (0 : Fin 3) slot8_inb (fun e => e.val) Fin.val_injective surj (fun e => (Nat.one_mul e.val).symm) rfl (by decide) slot8_rest
theorem s4_join : (bigSep Finset.univ fun d => some' (F := F) c (w8slot d)) ⊢ some' (F := F) c (Memref.whole cc0_scratch4) :=
  some_of_blocks (Memref.whole cc0_scratch4) (0 : Fin 3) slot8_inb (fun e => e.val) Fin.val_injective surj (fun e => (Nat.one_mul e.val).symm) rfl (by decide) slot8_rest

omit [FloatOps F] in
/-- The staging buffers in their slots, as the copies see them. -/
theorem s2_split : some' (F := F) c (Memref.whole cc0_scratch2) ⊢ bigSep Finset.univ fun t => some' (F := F) c (xstage t) :=
  (some_blocks (Memref.whole cc0_scratch2) (0 : Fin 3) slotX_inb (fun t => t.val) Fin.val_injective surj (fun t => (Nat.one_mul t.val).symm) rfl (by decide) slotX_rest).trans
    (bigSep_mono fun t _ => some_squeeze (xslot t) squeezes_S1x512x512_S512x512 (by decide))
theorem s2_join : (bigSep Finset.univ fun t => some' (F := F) c (xstage t)) ⊢ some' (F := F) c (Memref.whole cc0_scratch2) :=
  (bigSep_mono fun t _ => some_unsqueeze (xslot t) squeezes_S1x512x512_S512x512 (by decide)).trans
    (some_of_blocks (Memref.whole cc0_scratch2) (0 : Fin 3) slotX_inb (fun t => t.val) Fin.val_injective surj (fun t => (Nat.one_mul t.val).symm) rfl (by decide) slotX_rest)
omit [FloatOps F] in
theorem s3_split : some' (F := F) c (Memref.whole cc0_scratch3) ⊢ bigSep Finset.univ fun t => some' (F := F) c (wstage t) :=
  (some_blocks (Memref.whole cc0_scratch3) (0 : Fin 3) slotW_inb (fun t => t.val) Fin.val_injective surj (fun t => (Nat.one_mul t.val).symm) rfl (by decide) slotW_rest).trans
    (bigSep_mono fun t _ => some_squeeze (wslot t) squeezes_S1x512x2048_S512x2048 (by decide))
theorem s3_join : (bigSep Finset.univ fun t => some' (F := F) c (wstage t)) ⊢ some' (F := F) c (Memref.whole cc0_scratch3) :=
  (bigSep_mono fun t _ => some_unsqueeze (wslot t) squeezes_S1x512x2048_S512x2048 (by decide)).trans
    (some_of_blocks (Memref.whole cc0_scratch3) (0 : Fin 3) slotW_inb (fun t => t.val) Fin.val_injective surj (fun t => (Nat.one_mul t.val).symm) rfl (by decide) slotW_rest)
omit [FloatOps F] in
theorem s5_split : some' (F := F) c (Memref.whole cc0_scratch5) ⊢ bigSep Finset.univ fun t => some' (F := F) c (ostage t) :=
  (some_blocks (Memref.whole cc0_scratch5) (0 : Fin 3) slotO_inb (fun t => t.val) Fin.val_injective surj (fun t => (Nat.one_mul t.val).symm) rfl (by decide) slotO_rest).trans
    (bigSep_mono fun t _ => some_squeeze (oslot t) squeezes_S1x512x1024_S512x1024 (by decide))
theorem s5_join : (bigSep Finset.univ fun t => some' (F := F) c (ostage t)) ⊢ some' (F := F) c (Memref.whole cc0_scratch5) :=
  (bigSep_mono fun t _ => some_unsqueeze (oslot t) squeezes_S1x512x1024_S512x1024 (by decide)).trans
    (some_of_blocks (Memref.whole cc0_scratch5) (0 : Fin 3) slotO_inb (fun t => t.val) Fin.val_injective surj (fun t => (Nat.one_mul t.val).symm) rfl (by decide) slotO_rest)

/-! ## All of a device's memory -/

/-- The counters of the copies within a device: of x blocks, of weight blocks, of halves of the result. -/
def lsem (p : Fin 3 × Fin 2) : SemLoc sig := if p.1 = 0 then .dma (xsem p.2) else if p.1 = 1 then .dma (wsem p.2) else .dma (osem p.2)

/-- The local counters at zero. -/
def localZero (c : Dev nD) : sProp 𝕄 := bigSep Finset.univ fun p => semVal ((c : Thread nD τ), lsem p) 0

/-- The scratch buffers, at any contents. -/
def scratch (c : Dev nD) : sProp 𝕄 :=
  iprop(some' (F := F) c (Memref.whole cc0_scratch0) ∗ some' (F := F) c (Memref.whole cc0_scratch1) ∗ some' (F := F) c (Memref.whole cc0_scratch2)
    ∗ some' (F := F) c (Memref.whole cc0_scratch3) ∗ some' (F := F) c (Memref.whole cc0_scratch4) ∗ some' (F := F) c (Memref.whole cc0_scratch5))

/-- The arrays at `x`, `w` and the result at `v`. -/
def arrays (c : Dev nD) (v : Buf (Elt F) ((c : Thread nD τ).loc main_v1)) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1) ↦{fullShare} v))

omit [FloatOps F] in
theorem localZero_eq : localZero (F := F) c = iprop((bigSep Finset.univ fun t => semVal ((c : Thread nD τ), .dma (xsem t)) 0)
    ∗ (bigSep Finset.univ fun t => semVal ((c : Thread nD τ), .dma (wsem t)) 0) ∗ (bigSep Finset.univ fun t => semVal ((c : Thread nD τ), .dma (osem t)) 0)) := by
  unfold localZero
  rw [bigSep_univ_prod, bigSep_three]
  rfl

/-- Before the body. -/
theorem placesIn_of : iprop(arrays m c (m ((c : Thread nD τ).loc main_v1)) ∗ scratch (F := F) c ∗ localZero (F := F) c ∗ scales m c) ⊢ placesIn m c := by
  unfold arrays scratch placesIn restX restW halfPre
  rw [localZero_eq, bigSep_sep', bigSep_sep', bigSep_sep', bigSep_sep']
  iintro ⟨⟨Hx, Hw, Hv⟩, ⟨H0, H1, H2, H3, H4, H5⟩, ⟨Lx, Lw, Lo⟩, HS⟩
  isplitl [Hx]; · iapply (x_split m) $$ Hx
  isplitl [Hw]; · iapply (w_split m) $$ Hw
  isplitl [H0]; · iapply (s0_split (F := F)) $$ H0
  isplitl [H1]; · iapply (s1_split (F := F)) $$ H1
  isplitl [H4]; · iapply (s4_split (F := F)) $$ H4
  isplitl [H2 Lx]
  · isplitl [H2]; · iapply (s2_split (F := F)) $$ H2
    iexact Lx
  isplitl [H3 Lw]
  · isplitl [H3]; · iapply (s3_split (F := F)) $$ H3
    iexact Lw
  isplitl [H5 Hv Lo]
  · isplitl [H5]; · iapply (s5_split (F := F)) $$ H5
    isplitl [Hv]; · iapply (res_split m) $$ Hv
    iexact Lo
  iexact HS

/-- After the body. -/
theorem of_placesOut : placesOut m c ⊢ iprop(arrays m c (resv m c) ∗ scratch (F := F) c ∗ localZero (F := F) c ∗ scales m c) := by
  unfold arrays scratch placesOut restX restW halfPost
  rw [localZero_eq, bigSep_sep', bigSep_sep', bigSep_sep', bigSep_sep']
  iintro ⟨Hx, Hw, H0, H1, H4, ⟨H2, Lx⟩, ⟨H3, Lw⟩, ⟨H5, Hv, Lo⟩, HS⟩
  isplitl [Hx Hw Hv]
  · isplitl [Hx]; · iapply (x_join m) $$ Hx
    isplitl [Hw]; · iapply (w_join m) $$ Hw
    iapply (res_join m) $$ Hv
  isplitl [H0 H1 H2 H3 H4 H5]
  · isplitl [H0]; · iapply (s0_join (F := F)) $$ H0
    isplitl [H1]; · iapply (s1_join (F := F)) $$ H1
    isplitl [H2]; · iapply (s2_join (F := F)) $$ H2
    isplitl [H3]; · iapply (s3_join (F := F)) $$ H3
    isplitl [H4]; · iapply (s4_join (F := F)) $$ H4
    iapply (s5_join (F := F)) $$ H5
  isplitl [Lx Lw Lo]
  · isplitl [Lx]; · iexact Lx
    isplitl [Lw]; · iexact Lw
    iexact Lo
  iexact HS

end Cert.KernelIdeal.Gemm

end
-- ==== Proof.Ghost.lean ====
/-
  What the launch deals: the counters' records and rights, each to the device that uses it, and the claims on
  what the others owe.
-/
module

public import proofs.«01_k».proof.Proof.Memory
public import proofs.«01_k».proof.Proof.Gen.KernelIdeal.Launch
public import proofs.«01_k».proof.Proof.Gen.KernelIdeal.Points

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Cell → ℕ)

/-! ## The counters of a device -/

/-- A device's counters, the kernel's own: those that other devices put on, and those of its local copies. -/
def allSem : (Fin 3 × Fin 8) ⊕ (Fin 3 × Fin 2) → SemLoc sig := Sum.elim ksem lsem

theorem ownSemFacts : Pipeline.OwnSemFacts cfg0.spec allSem := by decide

omit [FloatOps F] in
theorem ownSems0_eq (c : Dev nD) : (Pipeline.ownSems0 (Ix := Unit) (Name := ℕ) (U := UU) (Lvl := ℕ) (Val := Elt F) (τ := τ) allSem c : sProp 𝕄)
    = iprop((bigSep Finset.univ fun p : Fin 3 × Fin 8 => semVal (kcell (c, p)) 0) ∗ localZero (F := F) c) :=
  bigSep_univ_sum fun k => (semVal ((c : Thread nD τ), allSem k) 0 : sProp 𝕄)

/-! ## The records and the rights -/

/-- The kernel's counters. -/
def ringCells : Finset (GSem nD τ sig) := Finset.univ.map kemb
/-- The right to each counter's one event. -/
def ringToks : Finset (GSem nD τ sig × ℕ × Unit) :=
  Finset.univ.map ⟨fun x : Cell => (kcell x, 0, ()), fun _ _ h => kcell_injective (congrArg Prod.fst h)⟩

/-- The ghost state at the launch. -/
def u₀ : UU := (initOf (Pipeline.cells cfgs cellOf_inj) (Pipeline.launchToks cfgs cellOf_inj), (initOf ringCells ringToks, 1))

/-- What a device is first dealt, counter by counter. -/
def dealt (c : Dev nD) : sProp 𝕄 :=
  iprop((bigSep Finset.univ fun p : Fin 3 × Fin 8 => roundState ER (rd m) (kcell (c, p)) 0)
    ∗ (bigSep Finset.univ fun p : Fin 3 × Fin 8 => atPos ER (kcell (c, p)) 0 ∅ 0) ∗ (bigSep Finset.univ fun p : Fin 3 × Fin 8 => reached ER (kcell (c, p)) 0)
    ∗ (bigSep Finset.univ fun p : Fin 3 × Fin 8 => dutyTok ER (kcell (c, p)) 0 ()))

theorem fund_ring : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun p : Fin 3 × Fin 8 => Φ (kcell (c, p)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun p : Fin 3 × Fin 8 => dutyTok ER (kcell (c, p)) 0 () := by
    unfold ringToks; rw [bigSep_map, bigSep_univ_prod]; rfl
  iintro HX
  imod (Rounds.fund ER (rd m) ringCells ringToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  rw [bigSep_sep', bigSep_sep', bigSep_sep']
  isplitl [Hst]; · iexact Hst
  isplitl [Hat]; · iexact Hat
  isplitl [Hr]; · iexact Hr
  iexact Htok

/-- What a device holds once its counters run by the schedule. -/
def allocated (c : Dev nD) : sProp 𝕄 :=
  iprop((bigSep Finset.univ fun p : Fin 3 × Fin 8 => iprop(∃ κ : ℕ, cellInv ER (rd m) κ (kcell (c, p))))
    ∗ (bigSep Finset.univ fun p : Fin 3 × Fin 8 => atPos ER (kcell (c, p)) 0 ∅ 0) ∗ (bigSep Finset.univ fun p : Fin 3 × Fin 8 => reached ER (kcell (c, p)) 0)
    ∗ (bigSep Finset.univ fun p : Fin 3 × Fin 8 => dutyTok ER (kcell (c, p)) 0 ()) ∗ localZero (F := F) c)

theorem core_alloc (c : Dev nD) :
    iprop(Pipeline.ownSems0 (Ix := Unit) (Name := ℕ) (U := UU) (Lvl := ℕ) (Val := Elt F) (τ := τ) allSem c ∗ dealt m c) ⊢ |={Set.univ}=> allocated m c := by
  unfold dealt allocated
  rw [ownSems0_eq]
  iintro ⟨⟨Hv, HL⟩, Hst, Hat, Hr, Htok⟩
  imod (show iprop((bigSep Finset.univ fun p : Fin 3 × Fin 8 => semVal (kcell (c, p)) 0) ∗ bigSep Finset.univ fun p : Fin 3 × Fin 8 => roundState ER (rd m) (kcell (c, p)) 0)
      ⊢ (|={Set.univ}=> bigSep Finset.univ fun p : Fin 3 × Fin 8 => iprop(∃ κ : ℕ, cellInv ER (rd m) κ (kcell (c, p))) : sProp 𝕄) from by
        rw [← bigSep_sep']
        exact (bigSep_mono fun p _ => (Rounds.body_intro ER (rd m) (kcell (c, p))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact HL

/-- What every device knows of the counters. -/
def records (K : Cell → ℕ) : sProp 𝕄 :=
  iprop((bigSep Finset.univ fun x => cellInv ER (rd m) (K x) (kcell x)) ∗ (bigSep Finset.univ fun x => reached ER (kcell x) 0))
instance records_persistent (K : Cell → ℕ) : BI.Persistent (records m K) := by unfold records; infer_instance

/-- The rights of a device, on its own counters and on the others'. -/
def rights (c : Dev nD) : sProp 𝕄 :=
  iprop((bigSep Finset.univ fun r : Fin 7 => dutyTok ER (kcell (dv c (r.val + 1), 0, c)) 0 ())
    ∗ (bigSep Finset.univ fun r : Fin 7 => dutyTok ER (kcell (dv c (r.val + 1), 1, c)) 0 ())
    ∗ (bigSep Finset.univ fun r : Fin 7 => dutyTok ER (kcell (c, 2, r.castSucc)) 0 ()))

omit [FloatOps F] in
/-- A row of rights on everyone's counters, dealt to those who use them. -/
theorem row_around (k : Fin 3) :
    (bigSep Finset.univ fun c : Dev nD => bigSep Finset.univ fun e : Dev nD => (dutyTok ER (kcell (c, k, e)) 0 () : sProp 𝕄))
      ⊢ bigSep Finset.univ fun c : Dev nD => bigSep Finset.univ fun r : Fin 7 => dutyTok ER (kcell (dv c (r.val + 1), k, c)) 0 () := by
  rw [← bigSep_univ_prod fun x : Dev nD × Dev nD => (dutyTok ER (kcell (x.1, k, x.2)) 0 () : sProp 𝕄),
    bigSep_univ_equiv (Equiv.prodComm (Dev nD) (Dev nD)) fun x : Dev nD × Dev nD => (dutyTok ER (kcell (x.1, k, x.2)) 0 () : sProp 𝕄),
    bigSep_univ_prod]
  refine bigSep_mono fun c _ => ?_
  have h := (sep_around (F := F) c fun e => dutyTok ER (kcell (e, k, c)) 0 ()).1
  refine h.trans ?_
  exact sep_elim_left

omit [FloatOps F] in
theorem rights_around :
    (bigSep Finset.univ fun c : Dev nD => bigSep Finset.univ fun p : Fin 3 × Fin 8 => (dutyTok ER (kcell (c, p)) 0 () : sProp 𝕄))
      ⊢ bigSep Finset.univ fun c : Dev nD => rights (F := F) c := by
  have h3 : ∀ c : Dev nD, (bigSep Finset.univ fun p : Fin 3 × Fin 8 => (dutyTok ER (kcell (c, p)) 0 () : sProp 𝕄))
      = iprop((bigSep Finset.univ fun e : Fin 8 => dutyTok ER (kcell (c, 0, e)) 0 ()) ∗ (bigSep Finset.univ fun e : Fin 8 => dutyTok ER (kcell (c, 1, e)) 0 ())
        ∗ (bigSep Finset.univ fun e : Fin 8 => dutyTok ER (kcell (c, 2, e)) 0 ())) := fun c => by
    rw [bigSep_univ_prod, bigSep_three]
  have hs : ∀ c : Dev nD, (bigSep Finset.univ fun e : Fin 8 => (dutyTok ER (kcell (c, 2, e)) 0 () : sProp 𝕄)) ⊢ bigSep Finset.univ fun r : Fin 7 => dutyTok ER (kcell (c, 2, r.castSucc)) 0 () :=
    fun c => (sep_last (F := F) fun e => dutyTok ER (kcell (c, 2, e)) 0 ()).1.trans sep_elim_left
  unfold rights
  rw [bigSep_congr (s := Finset.univ) fun c _ => h3 c]
  rw [bigSep_sep', bigSep_sep', bigSep_sep', bigSep_sep']
  iintro ⟨H0, H1, H2⟩
  isplitl [H0]; · iapply (row_around (F := F) 0) $$ H0
  isplitl [H1]; · iapply (row_around (F := F) 1) $$ H1
  have h2 := BI.bigSep_mono (s := (Finset.univ : Finset (Dev nD))) fun c _ => hs c
  iapply (show (_ : sProp 𝕄) ⊢ _ from h2) $$ H2

/-- What a device is dealt in the end, but for the claims. -/
def given (c : Dev nD) : sProp 𝕄 :=
  iprop(∃ K, records m K ∗ (bigSep Finset.univ fun p : Fin 3 × Fin 8 => atPos ER (kcell (c, p)) 0 ∅ 0) ∗ rights (F := F) c ∗ localZero (F := F) c)

theorem given_intro (K : Cell → ℕ) (c : Dev nD) :
    iprop(records m K ∗ (bigSep Finset.univ fun p : Fin 3 × Fin 8 => atPos ER (kcell (c, p)) 0 ∅ 0) ∗ rights (F := F) c ∗ localZero (F := F) c) ⊢ given m c := by
  unfold given
  iintro H
  iexists K
  iexact H

theorem regroup : (bigSep Finset.univ fun c : Dev nD => allocated m c) ⊢ bigSep Finset.univ (given m) := by
  unfold allocated
  rw [bigSep_sep', bigSep_sep', bigSep_sep', bigSep_sep', ← bigSep_univ_prod (fun x : Cell => iprop(∃ κ : ℕ, cellInv ER (rd m) κ (kcell x))),
    ← bigSep_univ_prod (fun x : Cell => (reached ER (kcell x) 0 : sProp 𝕄))]
  iintro ⟨HI, Hat, #HR, Htok, HL⟩
  ihave HK := (BI.bigSep_exists_pi Finset.univ (fun (x : Cell) (κ : ℕ) => (cellInv ER (rd m) κ (kcell x) : sProp 𝕄))) $$ HI
  icases HK with ⟨%K, #HI⟩
  ihave Htok := (rights_around (F := F)) $$ Htok
  iapply (bigSep_with_persistent (R := records m K) fun c _ => given_intro m K c)
  isplitr
  · unfold records
    isplitr; · iexact HI
    iexact HR
  rw [bigSep_sep', bigSep_sep']
  isplitl [Hat]; · iexact Hat
  isplitl [Htok]; · iexact Htok
  iexact HL

theorem glob : (bigSep Finset.univ fun c => iprop(Pipeline.ownSems0 (Ix := Unit) (Name := ℕ) (U := UU) (Lvl := ℕ) (Val := Elt F) (τ := τ) allSem c ∗ dealt m c) : sProp 𝕄)
    ⊢ |={Set.univ}=> bigSep Finset.univ (given m) :=
  ((bigSep_mono fun c _ => core_alloc m c).trans (bigSep_fupd _ _)).trans (BI.fupd_mono (regroup m))

/-! ## The claims -/

/-- How many times the devices owe a counter of row `k`. -/
def timesOwed (k : Fin 3) (x : Cell) : ℕ := ∑ d : Dev nD, ∑ i ∈ Finset.Ico 0 7, if x = (dv d (i + 1), k, d) then 1 else 0

theorem owed_row (k : Fin 3) (n : ℕ) (d : Dev nD) (x : Cell) :
    (∑ i ∈ Finset.Ico 0 7, (tallyAt (kcell (dv d (i + 1), k, d)) () n : CellTallies nD τ sig Unit)) (kcell x) ()
      = n * ∑ i ∈ Finset.Ico 0 7, if x = (dv d (i + 1), k, d) then 1 else 0 := by
  rw [Finset.sum_apply, Finsupp.finset_sum_apply, Finset.mul_sum]
  refine Finset.sum_congr rfl fun i _ => ?_
  rw [tallyAt_apply]
  by_cases h : x = (dv d (i + 1), k, d)
  · rw [if_pos h, if_pos ⟨congrArg kcell h, rfl⟩, Nat.mul_one]
  · rw [if_neg h, if_neg fun h' => h (kcell_injective h'.1), Nat.mul_zero]

/-- What the devices owe a counter altogether. -/
theorem owed_total (x : Cell) : ∑ d : Dev nD, O₀ d (kcell x) () = N * timesOwed 1 x + 1 * timesOwed 0 x := by
  unfold timesOwed O₀ OR OS
  rw [Finset.mul_sum, Finset.mul_sum, ← Finset.sum_add_distrib]
  refine Finset.sum_congr rfl fun d _ => ?_
  rw [Pi.add_apply, Finsupp.add_apply, owed_row, owed_row]

theorem owed_ready (c : Dev nD) (r : Fin 7) : ∑ d : Dev nD, O₀ d (kcell (c, 0, dv c (r.val + 1))) () = 1 := by
  rw [owed_total, show timesOwed 1 (c, 0, dv c (r.val + 1)) = 0 by revert c r; decide +kernel, show timesOwed 0 (c, 0, dv c (r.val + 1)) = 1 by revert c r; decide +kernel,
    Nat.mul_zero, Nat.zero_add]
theorem owed_recv (c : Dev nD) (j : Fin 7) : ∑ d : Dev nD, O₀ d (kcell (c, 1, dv c (7 - j.val))) () = N := by
  rw [owed_total, show timesOwed 1 (c, 1, dv c (7 - j.val)) = 1 by revert c j; decide +kernel, show timesOwed 0 (c, 1, dv c (7 - j.val)) = 0 by revert c j; decide +kernel,
    Nat.mul_one, Nat.mul_zero, Nat.add_zero]

theorem launch_cell (x : Cell) (n : ℕ) (h : ∑ d : Dev nD, O₀ d (kcell x) () = n) :
    tallyOn (kcell x) (launchCredit (Pipeline.owing O₀) 0 (kcell x)) = (tallyAt (kcell x) () n : CellTallies nD τ sig Unit) := by
  unfold tallyAt; refine congrArg _ (Finsupp.ext fun u => ?_); cases u
  rw [Pipeline.launchCredit_owing, Finsupp.single_eq_same, h]

omit [FloatOps F] in
/-- The claims of a device: on the others' words, and on the blocks they send. -/
theorem creds (c : Dev nD) : (Pipeline.launchCred O₀ c : sProp 𝕄)
    ⊢ iprop((bigSep Finset.univ fun r : Fin 7 => cred (tallyAt (kcell (c, 0, dv c (r.val + 1))) () 1))
      ∗ (bigSep Finset.univ fun j : Fin 7 => cred (tallyAt (kcell (c, 1, dv c (7 - j.val))) () N))) := by
  have h1 : (Pipeline.launchCred O₀ c : sProp 𝕄)
      ⊢ bigSep Finset.univ fun p : Fin 3 × Fin 8 => cred (tallyOn (kcell (c, p)) (launchCredit (Pipeline.owing O₀) 0 (kcell (c, p)))) := by
    unfold Pipeline.launchCred
    refine (bigSep_subset (Finset.subset_univ (Finset.univ.map ⟨ksem, ksem_injective⟩))).trans ?_
    rw [bigSep_map]
    show (_ : sProp 𝕄) ⊢ _
    exact Entails.of_eq rfl
  have h2 := (sep_cells (F := F) c fun p => cred (tallyOn (kcell (c, p)) (launchCredit (Pipeline.owing O₀) 0 (kcell (c, p))))).1
  iintro H
  ihave H := h1 $$ H
  ihave H := h2 $$ H
  icases H with ⟨⟨H0, -⟩, ⟨H1, -⟩, -⟩
  isplitl [H0]
  · iapply (Entails.of_eq (bigSep_congr fun (r : Fin 7) _ => congrArg cred (launch_cell (c, 0, dv c (r.val + 1)) 1 (owed_ready c r)) :
      (bigSep Finset.univ fun r : Fin 7 => (cred (tallyOn (kcell (c, 0, dv c (r.val + 1))) (launchCredit (Pipeline.owing O₀) 0 (kcell (c, 0, dv c (r.val + 1))))) : sProp 𝕄)) = _)) $$ H0
  · iapply (Entails.of_eq (bigSep_congr fun (j : Fin 7) _ => congrArg cred (launch_cell (c, 1, dv c (7 - j.val)) N (owed_recv c j)) :
      (bigSep Finset.univ fun j : Fin 7 => (cred (tallyOn (kcell (c, 1, dv c (7 - j.val))) (launchCredit (Pipeline.owing O₀) 0 (kcell (c, 1, dv c (7 - j.val))))) : sProp 𝕄)) = _)) $$ H1

end Cert.KernelIdeal.Gemm

end
-- ==== Proof.Launch.lean ====
/-
  The launch: from any memory, every run of the eight devices ends, with the arguments as they were, the result
  as computed, and every counter at zero.
-/
module

public import proofs.«01_k».proof.Proof.Ghost
public import Idealize.ShloMosaic.Lib.Pipeline.CollectiveSegs

@[expose] public section

noncomputable section

namespace Cert.KernelIdeal.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- The launch's state. -/
abbrev s₀ : MemSt nD τ sig (Elt F) := ⟨m, fun _ => 0, ρ⟩

/-- The barrier's counter at zero. -/
abbrev quiet (c : Dev nD) : sProp 𝕄 := semVal ((c : Thread nD τ), .reg barrierSem) 0

omit [FloatOps F] in
theorem unscoped_eq (c : Dev nD) : (unscopedSems0 c : sProp 𝕄) = quiet (F := F) c := by
  unfold unscopedSems0
  rw [show (Finset.univ.filter fun sm : SemLoc sig => ¬ sm.isScoped .tc) = {SemLoc.reg barrierSem} from by decide, BI.bigSep_singleton]

/-- At the start. -/
def start (c : Dev nD) : sProp 𝕄 :=
  iprop((∃ K, ctx m K) ∗ ghost (F := F) c ∗ quiet (F := F) c ∗ localZero (F := F) c ∗ arrays m c (m ((c : Thread nD τ).loc main_v1)))
/-- Before the body. -/
def Φ₀ (c : Dev nD) : sProp 𝕄 := iprop(start m c ∗ scratch (F := F) c)
/-- After it. -/
def Φ₁ (c : Dev nD) : sProp 𝕄 :=
  iprop(quiet (F := F) c ∗ (bigSep Finset.univ fun p : Fin 3 × Fin 8 => semVal (kcell (c, p)) 0) ∗ localZero (F := F) c ∗ arrays m c (resv m c) ∗ scratch (F := F) c)

/-- The launch's proof data: the two scales staged, what the body holds around them, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxv m c
    | ⟨1, _⟩ => swv m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem before_0 (c : Dev nD) (d) : (dats m ρ 0 c).before (0 : Fin 2) t0_0 d = sxv m c := by
  unfold Dat.before; rw [if_pos (fetch0_0 t0_0)]; rfl
theorem before_1 (c : Dev nD) (d) : (dats m ρ 0 c).before (1 : Fin 2) t0_0 d = swv m c := by
  unfold Dat.before; rw [if_pos (fetch0_1 t0_0)]; rfl

/-! ## The body -/

/-- A staged scale, as the launch holds it. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem of_stg (c : Dev nD) (b : Ref sig .tc) (X : b.ty.Contents (Elt F)) : stg c b X ⊢ (((c : Thread nD τ).loc b) ↦{fullShare} X) := by
  unfold stg
  iintro ⟨%f, %h, H⟩
  subst h
  iexact H
omit [FloatOps F] in
theorem stg_of (c : Dev nD) (b : Ref sig .tc) (X : b.ty.Contents (Elt F)) : (((c : Thread nD τ).loc b) ↦{fullShare} X) ⊢ stg c b X := by
  unfold stg
  iintro H
  iexists X
  isplitr; · (ipureintro; rfl)
  iexact H

/-- Before the body, with the launch's stages. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
/-- After it. -/
def bodyPost (c : Dev nD) : sProp 𝕄 :=
  iprop(Φ₁ m c ∗ (dats m ρ 0 c).owesAt () t0_0.succ ∗ stg c cc0_stg0_0 (sxv m c) ∗ stg c cc0_stg1_0 (swv m c))

theorem bodyPost_intro (c : Dev nD) : bodyOut m c ⊢ bodyPost m ρ c := by
  unfold bodyOut bodyPost Φ₁ Dat.owesAt Pipeline.owesWithin
  rw [show (dats m ρ 0 c).owed t0_0.succ = 0 from rfl]
  iintro ⟨⟨%W, HO⟩, HB, HZ, HP⟩
  ihave HP := (of_placesOut m) $$ HP
  unfold scales
  icases HP with ⟨HA, HS, HL, Hx, Hw⟩
  isplitl [HB HZ HL HA HS]
  · isplitl [HB]; · iexact HB
    isplitl [HZ]; · iexact HZ
    isplitl [HL]; · iexact HL
    isplitl [HA]; · iexact HA
    iexact HS
  isplitl [HO]
  · iexists W
    isplitr; · ipureintro; exact fun _ _ => Or.inl trivial
    iexact HO
  isplitl [Hx]; · iapply (stg_of c cc0_stg0_0 _) $$ Hx
  iapply (stg_of c cc0_stg1_0 _) $$ Hw

theorem body_run (c : Dev nD) : bodyPre m ρ c ⊢ run c (stages (Memref.whole cc0_stg0_0) (Memref.whole cc0_stg1_0) c) (fun _ => bodyPost m ρ c) := by
  unfold bodyPre Φ₀ start Dat.owesAt Pipeline.owesWithin
  rw [show (dats m ρ 0 c).owed t0_0.castSucc = O₀ c from rfl]
  iintro ⟨⟨⟨⟨%K, #HC⟩, HG, HB, HL, HA⟩, HS⟩, ⟨%W, %hW, HO⟩, ⟨%d, Hx⟩, ⟨%d', Hw⟩⟩
  rw [before_0, before_1]
  iapply (wp_mono _ _ _ (Q := fun _ => bodyOut m c) fun _ => bodyPost_intro m ρ c)
  iapply (wp_stages m K)
  isplitr; · iexact HC
  isplitl [HO]; · iexists W; iexact HO
  isplitl [HG]; · iexact HG
  isplitl [HB]; · iexact HB
  iapply (placesIn_of m)
  isplitl [HA]; · iexact HA
  isplitl [HS]; · iexact HS
  isplitl [HL]; · iexact HL
  unfold scales
  isplitl [Hx]; · iapply (of_stg c cc0_stg0_0 _) $$ Hx
  iapply (of_stg c cc0_stg1_0 _) $$ Hw

set_option maxRecDepth 65536 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (bodyAt0 t0_0) (fun _ => bodyPost m ρ c)
  have h : bodyAt0 (F := F) t0_0 = .op .deviceId fun c => stages (Memref.whole cc0_stg0_0) (Memref.whole cc0_stg1_0) c := body_eq_steps _ _ _ _
  rw [h, wp_deviceId]
  exact body_run m ρ c

/-! ## The launch -/

theorem share_eq (c : Dev nD) (w : Fin cfg0.W) : (dats m ρ 0 c).share w = fullShare := by unfold Dat.share; split <;> rfl

theorem ghost_intro (c : Dev nD) :
    iprop(given m c ∗ Pipeline.launchCred O₀ c ∗ levAts L lv) ⊢ iprop((∃ K, ctx m K) ∗ ghost (F := F) c ∗ localZero (F := F) c) := by
  unfold given records rights ctx ghost
  iintro ⟨⟨%K, ⟨#HI, #HR⟩, Hat, ⟨T0, T1, T2⟩, HL⟩, Hcr, #Hlev⟩
  ihave Hc := (creds (F := F) c) $$ Hcr
  icases Hc with ⟨C0, C1⟩
  isplitr
  · iexists K
    isplitr; · iexact HI
    isplitr; · iexact HR
    iexact Hlev
  isplitr [HL]
  · isplitl [T0]; · iexact T0
    isplitl [T1]; · iexact T1
    isplitl [T2]; · iexact T2
    isplitl [C0]; · iexact C0
    isplitl [C1]; · iexact C1
    iexact Hat
  iexact HL

theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ given m c)
      ⊢ |={Set.univ}=> iprop(start m c ∗ emp) := by
  rw [unscoped_eq, Pipeline.unscopedRestP_none, unscopedRest0_eq]
  unfold start arrays
  iintro ⟨HA, HB, Hlev, Hcr, -, HG⟩
  ihave H := (ghost_intro m c) $$ [HG Hcr Hlev]
  · isplitl [HG]; · iexact HG
    isplitl [Hcr] <;> iassumption
  icases H with ⟨HC, Hg, HL⟩
  imodintro
  isplitl
  · isplitl [HC]; · iexact HC
    isplitl [Hg]; · iexact Hg
    isplitl [HB]; · iexact HB
    isplitl [HL]; · iexact HL
    iexact HA
  · iempintro

omit [FloatOps F] in
theorem scratch_of (c : Dev nD) : (Pipeline.scopedRest cfg0.spec c : sProp 𝕄) ⊢ scratch (F := F) c := by
  rw [scopedRest0_eq]
  unfold scratch
  iintro ⟨H0, H1, H2, H3, H4, H5⟩
  isplitl [H0]; · iapply (some_whole_of cc0_scratch0) $$ H0
  isplitl [H1]; · iapply (some_whole_of cc0_scratch1) $$ H1
  isplitl [H2]; · iapply (some_whole_of cc0_scratch2) $$ H2
  isplitl [H3]; · iapply (some_whole_of cc0_scratch3) $$ H3
  isplitl [H4]; · iapply (some_whole_of cc0_scratch4) $$ H4
  iapply (some_whole_of cc0_scratch5) $$ H5
omit [FloatOps F] in
theorem of_scratch (c : Dev nD) : scratch (F := F) c ⊢ (Pipeline.scopedRest cfg0.spec c : sProp 𝕄) := by
  rw [scopedRest0_eq]
  unfold scratch
  iintro ⟨H0, H1, H2, H3, H4, H5⟩
  isplitl [H0]; · iapply (whole_of_some cc0_scratch0) $$ H0
  isplitl [H1]; · iapply (whole_of_some cc0_scratch1) $$ H1
  isplitl [H2]; · iapply (whole_of_some cc0_scratch2) $$ H2
  isplitl [H3]; · iapply (whole_of_some cc0_scratch3) $$ H3
  isplitl [H4]; · iapply (whole_of_some cc0_scratch4) $$ H4
  iapply (whole_of_some cc0_scratch5) $$ H5

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_of (F := F) c) $$ Hr

theorem phi1_exit (c : Dev nD) :
    (dats m ρ 0 c).Φ (Fin.last cfg0.N)
      ⊢ iprop((quiet (F := F) c ∗ arrays m c (resv m c)) ∗ Pipeline.ownSems0 allSem c ∗ Pipeline.scopedRest cfg0.spec c) := by
  rw [show (dats m ρ 0 c).Φ (Fin.last cfg0.N) = Φ₁ m c from rfl, ownSems0_eq]
  unfold Φ₁
  iintro ⟨HB, HZ, HL, HA, HS⟩
  isplitl [HB HA]
  · isplitl [HB] <;> iassumption
  isplitl [HZ HL]
  · isplitl [HZ] <;> iassumption
  iapply (of_scratch (F := F) c) $$ HS

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read of a device at the end. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = resv m c)
  ∧ ∀ sm : SemLoc sig, sm.isScoped .tc = false → s.sem ((c : Thread nD τ), sm) = 0

omit [FloatOps F] in
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) {(0 : Fin 1)} (fun _ => ℓ) (fun _ => f) s'
  rw [BI.bigSep_singleton] at h
  refine h.trans ?_
  iintro ⟨%hf, H⟩
  isplitr; · (ipureintro; exact hf 0 (Finset.mem_singleton_self _))
  iexact H

theorem read_end (c : Dev nD) (s' : Phys nD τ sig (Elt F)) :
    iprop((quiet (F := F) c ∗ arrays m c (resv m c)) ∗ emp ∗ SI s') ⊢ |={Set.univ}=> iprop(⌜QY m c s'.mem⌝ ∗ SI s') := by
  unfold arrays
  iintro ⟨⟨HB, Hx, Hw, Hv⟩, -, HSI⟩
  ihave H := (read_one _ _ s') $$ [Hx HSI]
  · isplitl [Hx] <;> iassumption
  icases H with ⟨%hx, HSI⟩
  ihave H := (read_one _ _ s') $$ [Hw HSI]
  · isplitl [Hw] <;> iassumption
  icases H with ⟨%hw, HSI⟩
  ihave H := (read_one _ _ s') $$ [Hv HSI]
  · isplitl [Hv] <;> iassumption
  icases H with ⟨%hv, HSI⟩
  imod (Pipeline.unscopedSems0_read (X := quiet (F := F) c) (c := c) (by rw [unscoped_eq]; exact fupd_intro) s') $$ [HB HSI] with ⟨%hs, HSI⟩
  · isplitl [HB] <;> iassumption
  imodintro
  isplitr
  · ipureintro; exact ⟨⟨hx, hw, hv⟩, hs⟩
  iexact HSI

/-- What a run ends in: on each device the four arguments as they were and the result as computed. -/
def Ends (s : MemSt nD τ sig (Elt F)) : Prop := ∀ c : Dev nD,
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_v1) = resv m c

theorem arr_0 (c : Dev nD) : (dats m ρ 0 c).arrAt (0 : Fin 2) cfg0.N = m ((c : Thread nD τ).loc main_arg2) := (dats (F := F) m ρ 0 c).arrAt_in (0 : Fin 2) rfl _
theorem arr_1 (c : Dev nD) : (dats m ρ 0 c).arrAt (1 : Fin 2) cfg0.N = m ((c : Thread nD τ).loc main_arg3) := (dats (F := F) m ρ 0 c).arrAt_in (1 : Fin 2) rfl _

set_option maxRecDepth 8000 in
/-- For any float values and from any memory with zero counters, every weakly fair run of the eight devices ends,
    with each device's arguments as they were, its result as computed and every counter at zero. -/
theorem run_main : θ_run defs (onTc (τ := τ) (main (F := F))) (s₀ m ρ) (fun r => Ends m r.2 ∧ r.2.sem = fun _ => 0) :=
  Pipeline.θ_run_region_owing_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := given m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (show iprop(BI.own ((Emb.inl.trans embR) (initOf ringCells ringToks))) ⊢ (|==> bigSep Finset.univ (dealt m) : sProp 𝕄) from fund_ring m) $$ HX with HG
      imodintro
      isplitl [HP] <;> iassumption)
    (hglob := glob m)
    (hA := fun _ _ => rfl) (hpf := fun _ k => k.elim0)
    (X := start m) (Y := fun c => iprop(quiet (F := F) c ∗ arrays m c (resv m c))) (Z := fun _ => iprop(emp))
    (hX := start_intro m ρ) (hin := phi0_intro m ρ) (hout := phi1_exit m ρ)
    (QY := QY m) (hY := read_end m)
    (hQ := fun r h hs => ⟨fun c => ⟨(h c).2.2.1.1, (h c).2.2.1.2.1, ((h c).1 (0 : Fin 2)).trans (arr_0 m ρ c), ((h c).1 (1 : Fin 2)).trans (arr_1 m ρ c),
      (h c).2.2.1.2.2⟩, sem_eq_zero hs fun c => (h c).2.2.2⟩)

end Cert.KernelIdeal.Gemm

end
-- ==== Proof.Frames.lean ====
/-
  The three programs run to their end and leave their arguments and every counter as they were.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem
open Cert.KernelIdeal.Gemm (run_main)

/-- The printed program and its idealization run the same bodies. -/
theorem bodies_eq : Cert.Kernel.defs₀ (F := Bits) = Cert.KernelIdeal.defs₀ (F := Bits) :=
  congrArg Defs.onTc (funext fun l => match l with | 0 => rfl)

/-- So they have the same body table. -/
theorem defs_eq : Cert.Kernel.defs (F := Bits) = Cert.KernelIdeal.defs (F := Bits) := congrArg (Pipeline.defs Cert.KernelIdeal.pcfgs) bodies_eq

/-- The kernel read with exact operations. -/
theorem frame_kernelIdeal : Cert.quiescent_KernelIdeal :=
  fun m ρ _ => (θ_run Cert.KernelIdeal.defs _ _).mono (fun _ h => ⟨fun c => ⟨(h.1 c).1, (h.1 c).2.1, (h.1 c).2.2.1, (h.1 c).2.2.2.1⟩, h.2⟩) (run_main (F := Ideal) m ρ)

/-- The reference. -/
theorem frame_reference : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The kernel as printed. -/
theorem frame_kernel : Cert.quiescent_Kernel := fun m ρ _ => by
  rw [defs_eq]
  exact (θ_run Cert.KernelIdeal.defs _ _).mono (fun _ h => ⟨fun c => ⟨(h.1 c).1, (h.1 c).2.1, (h.1 c).2.2.1, (h.1 c).2.2.2.1⟩, h.2⟩) (run_main (F := Bits) m ρ)

end Cert.Proof

end
-- ==== Proof.Sums.lean ====
/-
  The kernel's result over the reals.

  Read with exact operations the roundings are the identity, and each entry of a device's result is the sum of
  eight block products, one for each device, times the two scales, and zero where that is negative.
-/
module

public import proofs.«01_k».proof.Proof.Values
public import Idealize.ShloMosaic.Lib.ValueIdx
public import Idealize.ShloMosaic.Lib.ValueLayout
public import Idealize.ShloMosaic.Lib.MatmulPlain

@[expose] public section

noncomputable section

namespace Cert.KernelIdeal.Gemm

open Cert.KernelIdeal Cert.KernelIdeal.Gen
open Idealize.ShloMosaic hiding ix2 ix3
open Idealize.ShloMosaic.TcCoe
open Idealize.ShloMosaic.ValueIdx
open Idealize.SL.Sem

variable (m : (ℓ : Loc nD τ sig) → Buf (Elt Ideal) ℓ)

/-- Row `r` of row block `e`, among all rows. -/
def rowOf (e : Dev nD) (r : Fin 512) : Fin 4096 := ⟨512 * e.val + r.val, by have h : e.val < 8 := e.isLt; omega⟩

/-- Column `n` of column half `t`, among all columns. -/
def colOf (t : Fin 2) (n : Fin 1024) : Fin 2048 := ⟨1024 * t.val + n.val, by omega⟩

/-- The x array of device `c`. -/
def xarr (c : Dev nD) : FVec Ideal S4096x512 .f32 := m ((c : Thread nD τ).loc main_arg0)

/-- The weights of device `c`. -/
def warr (c : Dev nD) : FVec Ideal S4096x2048 .f32 := m ((c : Thread nD τ).loc main_arg1)

theorem xblk_apply (c e : Dev nD) (r k : Fin 512) : xblk m c e (ix2 r k) = xarr m c (ix2 (rowOf e r) k) :=
  congrArg (xarr m c) (funext fun a => Fin.ext (match a with
    | ⟨0, _⟩ => show 512 * e.val + 1 * r.val = 512 * e.val + r.val by omega
    | ⟨1, _⟩ => show 0 + 1 * k.val = k.val by omega))

theorem wblk_apply (c e : Dev nD) (k : Fin 512) (n : Fin 2048) : wblk m c e (ix2 k n) = warr m c (ix2 (rowOf e k) n) :=
  congrArg (warr m c) (funext fun a => Fin.ext (match a with
    | ⟨0, _⟩ => show 512 * e.val + 1 * k.val = 512 * e.val + k.val by omega
    | ⟨1, _⟩ => show 0 + 1 * n.val = n.val by omega))

/-- The rounded block of x has the entries of x. -/
theorem x8v_apply (c e : Dev nD) (r k : Fin 512) : x8v m c e (ix2 r k) = xarr m c (ix2 (rowOf e r) k) := by
  rw [← xblk_apply]
  unfold x8v k0_pay1
  rw [shapeCast_shapeCast, shapeCast_self]
  rfl

/-- The rounded weight block has the entries of the weights. -/
theorem w8v_apply (c e : Dev nD) (k : Fin 512) (n : Fin 2048) : w8v m c e (ix3 (0 : Fin 1) k n) = warr m c (ix2 (rowOf e k) n) := by
  rw [← wblk_apply]
  unfold w8v k0_pay10
  rw [shapeCast_shapeCast]
  exact shapeCast_ab_1ab_apply _ _ _ _ _

/-- A half of the weight block, likewise. -/
theorem w8half_apply (c e : Dev nD) (t : Fin 2) (k : Fin 512) (n : Fin 1024) :
    w8half m c e t (ix3 (0 : Fin 1) k n) = warr m c (ix2 (rowOf e k) (colOf t n)) := by
  rw [← w8v_apply]
  exact congrArg (w8v m c e) (funext fun a => Fin.ext (match a with
    | ⟨0, _⟩ => rfl
    | ⟨1, _⟩ => show 0 + 1 * k.val = k.val by omega
    | ⟨2, _⟩ => show 1024 * t.val + 1 * n.val = 1024 * t.val + n.val by omega))

/-- A product of two blocks into zeros, entry by entry. -/
theorem product_apply {N : ℕ} {φ₁ φ₂ : FTy} (a : FVec Ideal ⟨2, ![512, 512]⟩ φ₁) (b : FVec Ideal ⟨2, ![512, N]⟩ φ₂) (r : Fin 512) (n : Fin N) :
    matmul (DotDims.plain 512 512 N) none a b (constant ⟨2, ![512, N]⟩ .f32 0x00000000#32) (ix2 r n) = ∑ k : Fin 512, a (ix2 r k) * b (ix2 k n) := by
  refine (Ideal.matmul_plain_apply none a b _ r n).trans ?_
  rw [constant_apply, Ideal.ofBits_zero_f32, zero_add]

/-- The share of device `s` in entry `(r, n)` of the result of device `c`: what device `s` sends times the weight
    block of that place. -/
def part (c s : Dev nD) (r : Fin 512) (n : Fin 2048) : EReal := ∑ k : Fin 512, xarr m s (ix2 (rowOf c r) k) * warr m c (ix2 (rowOf s k) n)

theorem bufv_cast (c s : Dev nD) (h : S1x512x512.ShapeCasts S512x512) : shapeCast S512x512 (bufv m c s) h = x8v m s c := shapeCast_shapeCast _ _ _

theorem accv_zero (c : Dev nD) (r : Fin 512) (n : Fin 2048) : accv m c 0 (ix2 r n) = part m c c r n := by
  refine (product_apply (x8v m c c) (shapeCast S512x2048 (w8v m c c) shapeCasts_S1x512x2048_S512x2048) r n).trans ?_
  refine Finset.sum_congr rfl fun k _ => ?_
  rw [x8v_apply, shapeCast_1ab_ab_apply, w8v_apply]

theorem accv_succ (c : Dev nD) (j : ℕ) (r : Fin 512) (n : Fin 2048) :
    accv m c (j + 1) (ix2 r n) = accv m c j (ix2 r n) + part m c (dv c (7 - j)) r n := by
  refine congrArg (accv m c j (ix2 r n) + ·) ((product_apply (shapeCast S512x512 (bufv m c (dv c (7 - j))) shapeCasts_S1x512x512_S512x512)
    (shapeCast S512x2048 (w8v m c (dv c (7 - j))) shapeCasts_S1x512x2048_S512x2048) r n).trans ?_)
  refine Finset.sum_congr rfl fun k _ => ?_
  rw [bufv_cast, x8v_apply, shapeCast_1ab_ab_apply, w8v_apply]

/-- Going once backwards around the devices meets every device once. -/
theorem ring_sum (f : Dev nD → EReal) (c : Dev nD) :
    f c + f (dv c 7) + f (dv c 6) + f (dv c 5) + f (dv c 4) + f (dv c 3) + f (dv c 2) + f (dv c 1) = ∑ s, f s := by
  rw [← (dv_back_bijective c).sum_comp f]
  refine Eq.trans ?_ (Fin.sum_univ_eight _).symm
  show _ = f (dv c 8) + f (dv c 7) + f (dv c 6) + f (dv c 5) + f (dv c 4) + f (dv c 3) + f (dv c 2) + f (dv c 1)
  rw [dv_eight]

/-- The last sum, which only the halves of the result hold. -/
theorem accv_last (c : Dev nD) (r : Fin 512) (n : Fin 2048) : accv m c 6 (ix2 r n) + part m c (dv c 1) r n = ∑ s, part m c s r n := by
  rw [← ring_sum (fun s => part m c s r n) c]
  simp only [accv_succ, accv_zero]

/-- The first scale as staged is the first scale. -/
theorem sxv_one (c : Dev nD) (i : S1.Idx) : sxv m c one = m ((c : Thread nD τ).loc main_arg2) i :=
  congrArg (m ((c : Thread nD τ).loc main_arg2)) (funext fun a => Fin.ext (match a with | ⟨0, _⟩ => by have h : (i 0).val < 1 := (i 0).isLt; show 0 = (i 0).val; omega))

/-- The second scale as staged is the second scale. -/
theorem swv_one (c : Dev nD) (i : S1.Idx) : swv m c one = m ((c : Thread nD τ).loc main_arg3) i :=
  congrArg (m ((c : Thread nD τ).loc main_arg3)) (funext fun a => Fin.ext (match a with | ⟨0, _⟩ => by have h : (i 0).val < 1 := (i 0).isLt; show 0 = (i 0).val; omega))

/-- A half of the last product. -/
theorem last_apply (c : Dev nD) (t : Fin 2) (r : Fin 512) (n : Fin 1024) :
    matmul (DotDims.plain 512 512 1024) none (shapeCast S512x512 (bufv m c (dv c 1)) shapeCasts_S1x512x512_S512x512)
      (shapeCast S512x1024 (w8half m c (dv c 1) t) shapeCasts_S1x512x1024_S512x1024) (constant S512x1024 .f32 0x00000000#32) (ix2 r n)
    = part m c (dv c 1) r (colOf t n) := by
  refine (product_apply _ _ r n).trans (Finset.sum_congr rfl fun k _ => ?_)
  rw [bufv_cast, x8v_apply, shapeCast_1ab_ab_apply, w8half_apply]

/-- Entry `(r, n)` of half `t` of the result of device `c`. -/
theorem outq_apply (c : Dev nD) (t : Fin 2) (r : Fin 512) (n : Fin 1024) :
    outq m c t (ix2 r n) = max ((∑ s, part m c s r (colOf t n)) * scalev m c) 0 := by
  rw [← accv_last, ← last_apply]
  unfold outq
  have hz : (Scalar.ofBits .f32 0x00000000#32 : Ideal .f32) = 0 := Ideal.ofBits_zero_f32
  match t with
  | 0 =>
    unfold outv k0_pay26
    dsimp only
    rw [shapeCast_shapeCast, hz]
    exact congrArg (fun z => max ((z + _) * _) 0) (extractStridedSlice_apply _ _ _ _ (ix2 r (colOf 0 n)) fun a => match a with
      | ⟨0, _⟩ => (Nat.zero_add _).symm
      | ⟨1, _⟩ => rfl)
  | 1 =>
    unfold outv k0_pay30 k0_pay27 k0_pay28 k0_pay29
    dsimp only
    rw [shapeCast_shapeCast, hz]
    exact congrArg (fun z => max ((z + _) * _) 0) (extractStridedSlice_apply _ _ _ _ (ix2 r (colOf 1 n)) fun a => match a with
      | ⟨0, _⟩ => (Nat.zero_add _).symm
      | ⟨1, _⟩ => rfl)

/-- Entry `(r, n)` of the result of device `c`. -/
theorem resv_apply (c : Dev nD) (r : Fin 512) (n : Fin 2048) :
    resv m c (ix2 r n) = max ((∑ s, part m c s r n) * scalev m c) 0 := by
  obtain ⟨t, n', rfl⟩ : ∃ t n', n = colOf t n' :=
    ⟨⟨n.val / 1024, by omega⟩, ⟨n.val % 1024, Nat.mod_lt _ (by omega)⟩, Fin.ext (Nat.div_add_mod _ _).symm⟩
  rw [← outq_apply, ← resv_half]
  exact congrArg (resv m c) (funext fun a => Fin.ext (match a with
    | ⟨0, _⟩ => show r.val = 0 + 1 * r.val by omega
    | ⟨1, _⟩ => show 1024 * t.val + n'.val = 1024 * t.val + 1 * n'.val by omega))

end Cert.KernelIdeal.Gemm

end
-- ==== Proof.Whole.lean ====
/-
  The reference's result over the reals, and that a device's result is its block of rows of it.

  A row of x meets a column of the weights along 4096 positions. Counted as eight stretches of 512, stretch `s` is
  what device `s` holds of that row and is the share of device `s` in the kernel's sum.
-/
module

public import proofs.«01_k».proof.Proof.Sums
public import proofs.«01_k».proof.Proof.Gen.ReferenceIdeal
public import Idealize.ShloMosaic.Lib.Layout
public import Idealize.ShloMosaic.Lib.StackMember

@[expose] public section

noncomputable section

namespace Cert.KernelIdeal.Gemm

open Cert.ReferenceIdeal (S1x1 S4096x4096 dot_S4096x4096_S4096x2048_S4096x2048_1_0_0_1_n_n)
open Cert.ReferenceIdeal.Facts₀ (bcast_S1x1_S4096x2048_0_1 bcast_S1_S1x1_1 bcast_S_S4096x2048)
open Cert.KernelIdeal Cert.KernelIdeal.Gen
open Idealize.ShloMosaic hiding ix2 ix3 eq_ix2
open Idealize.ShloMosaic.TcCoe
open Idealize.ShloMosaic.ValueIdx
open Idealize.SL.Sem

/-- The reference's result from its arguments: the product of x and the weights, times the two scales, and zero
    where that is negative. -/
def whole (X : FVec Ideal S4096x4096 .f32) (W : FVec Ideal S4096x2048 .f32) (a b : FVec Ideal S1 .f32) : FVec Ideal S4096x2048 .f32 :=
  maximumf (mulf (Host.dotGeneral dot_S4096x4096_S4096x2048_S4096x2048_1_0_0_1_n_n none X W)
      (broadcastInDim S4096x2048 ![0, 1] bcast_S1x1_S4096x2048_0_1 (broadcastInDim S1x1 ![1] bcast_S1_S1x1_1 (mulf a b))))
    (broadcastInDim S4096x2048 ![] bcast_S_S4096x2048 (constant Cert.ReferenceIdeal.S_ .f32 0x00000000#32))

/-- An entry of the reference's result. -/
theorem whole_apply (X : FVec Ideal S4096x4096 .f32) (W : FVec Ideal S4096x2048 .f32) (a b : FVec Ideal S1 .f32) (r : Fin 4096) (n : Fin 2048) :
    whole X W a b (ix2 r n) = max ((∑ K : Fin 4096, X (ix2 r K) * W (ix2 K n)) * (a one * b one)) 0 := by
  have hd := StackMember.dotGeneral_plain_apply none X W r n
  have hs : broadcastInDim S4096x2048 ![0, 1] bcast_S1x1_S4096x2048_0_1
      (broadcastInDim S1x1 ![1] bcast_S1_S1x1_1 (mulf a b)) (ix2 r n) = a one * b one :=
    congrArg (mulf a b) (funext fun x => Fin.ext (match x with | ⟨0, _⟩ => rfl))
  rw [← hd, ← hs, ← Ideal.ofBits_zero_f32]
  rfl

/-- The 4096 positions as eight stretches of 512. -/
theorem sum_stretches (f : Fin 4096 → EReal) : ∑ K, f K = ∑ s : Dev nD, ∑ k : Fin 512, f (rowOf s k) := by
  rw [← (finProdFinEquiv (m := 8) (n := 512)).sum_comp f, Fintype.sum_prod_type]
  refine Finset.sum_congr rfl fun s _ => Finset.sum_congr rfl fun k _ => congrArg f (Fin.ext ?_)
  show k.val + 512 * s.val = 512 * s.val + k.val
  omega

variable (m : (ℓ : Loc nD τ sig) → Buf (Elt Ideal) ℓ)

/-- Where each device holds its columns of x, all the weights and the two scales, its result is its block of rows
    of the reference's result. -/
theorem resv_eq_block (X : FVec Ideal S4096x4096 .f32) (W : FVec Ideal S4096x2048 .f32) (a b : FVec Ideal S1 .f32)
    (hX : ∀ c, xarr m c = Layout.block ⟨2, ![4096, 512]⟩ ⟨2, ![4096, 4096]⟩ 1 8 c X) (hW : ∀ c, warr m c = W)
    (ha : ∀ c : Dev nD, m ((c : Thread nD τ).loc main_arg2) = a) (hb : ∀ c : Dev nD, m ((c : Thread nD τ).loc main_arg3) = b) (c : Dev nD) :
    resv m c = Layout.block ⟨2, ![512, 2048]⟩ ⟨2, ![4096, 2048]⟩ 0 8 c (whole X W a b) := by
  funext i
  obtain ⟨r, n, rfl⟩ : ∃ (r : Fin 512) (n : Fin 2048), i = ix2 r n := ⟨i 0, i 1, eq_ix2 i⟩
  have hrow : Layout.block ⟨2, ![512, 2048]⟩ ⟨2, ![4096, 2048]⟩ 0 8 c (whole X W a b) (by decide) (ix2 r n) = whole X W a b (ix2 (rowOf c r) n) :=
    congrArg (whole X W a b) (funext fun x => Fin.ext (match x with
      | ⟨0, _⟩ => show c.val * 512 + r.val = 512 * c.val + r.val by omega
      | ⟨1, _⟩ => rfl))
  have hsum : ∑ s, part m c s r n = ∑ K : Fin 4096, X (ix2 (rowOf c r) K) * W (ix2 K n) := by
    rw [sum_stretches]
    refine Finset.sum_congr rfl fun s _ => Finset.sum_congr rfl fun k _ => ?_
    rw [hX, hW]
    refine congrArg (· * _) (congrArg X (funext fun x => Fin.ext (match x with
      | ⟨0, _⟩ => rfl
      | ⟨1, _⟩ => show s.val * 512 + k.val = 512 * s.val + k.val by omega)))
  have hscale : scalev m c = a one * b one := by
    rw [← ha c, ← hb c, ← sxv_one m c one, ← swv_one m c one]
    rfl
  rw [hrow, whole_apply, resv_apply, hsum, hscale]

end Cert.KernelIdeal.Gemm

end
-- ==== Proof.lean ====
/-
  The claims about the kernel of the statement, put together.

  The kernel is proved once, for any float values: `run_main` (Proof/Launch.lean) says how every run of the eight
  devices ends. The two frames of the kernel are that run with the result left out. The value claim is that run over
  the reals, with `resv_eq_block` (Proof/Whole.lean): each device's result is its block of rows of the reference's.
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Whole

@[expose] public section

noncomputable section

namespace Cert.Proof

open Idealize.ShloMosaic Idealize.SL.Sem
open Cert.KernelIdeal.Gemm (run_main whole resv_eq_block)

/-- Over the reals, from the same arguments, each device's result is its block of rows of the reference's result. -/
theorem value : Cert.algebraic_KernelIdeal_ReferenceIdeal := fun m ρ m' ρ' _ hin =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ h c => ⟨(h.1 c).2.2.2.2.trans (resv_eq_block m _ _ _ _ (fun c => (hin c).1) (fun c => (hin c).2.1) (fun c => (hin c).2.2.1) (fun c => (hin c).2.2.2) c),
        (h.1 c).1, (h.1 c).2.1, (h.1 c).2.2.1, (h.1 c).2.2.2.1⟩)
      (run_main (F := Ideal) m ρ),
    (θ_run Cert.ReferenceIdeal.defs _ _).mono (fun _ h => h 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
